-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attends_and_finite [hPre_attends_and_finite : Cert.Pre_attends_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_attends_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_attends_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_attends_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_attends_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_attends_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_attends_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.1 = (fun _ => 1#1)
    ∧ (Cert.Pre_attends_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attends_and_finite [hPre_attends_and_finite : Cert.Pre_attends_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attends_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_attends_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_attends_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_attends_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_attends_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_attends_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.1 = (fun _ => 1#1)
    ∧ (Cert.Pre_attends_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_attends_and_finite [hKernelIdeal : Cert.KernelIdeal.Facts] [hPre_attends_and_finite : Cert.Pre_attends_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attends_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_attends_and_finite [hReferenceIdeal : Cert.ReferenceIdeal.Facts] [hPre_attends_and_finite : Cert.Pre_attends_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attends_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "mask" .f32 0x7149F2CA#32 ⊤

def algebraic_KernelIdeal_ReferenceIdeal_pre_attends_and_finite [hKernelIdeal : Cert.KernelIdeal.Facts] [hReferenceIdeal : Cert.ReferenceIdeal.Facts] [hPre_attends_and_finite : Cert.Pre_attends_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attends_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_attends_and_finite : Cert.Pre_attends_and_finite.Facts),
    quiescent_Kernel (hKernel := hKernel)
    ∧ quiescent_KernelIdeal (hKernelIdeal := hKernelIdeal)
    ∧ quiescent_KernelIdeal_pre_attends_and_finite (hKernelIdeal := hKernelIdeal) (hPre_attends_and_finite := hPre_attends_and_finite)
    ∧ quiescent_ReferenceIdeal (hReferenceIdeal := hReferenceIdeal)
    ∧ quiescent_ReferenceIdeal_pre_attends_and_finite (hReferenceIdeal := hReferenceIdeal) (hPre_attends_and_finite := hPre_attends_and_finite)
    ∧ preserves_Kernel_KernelIdeal
    ∧ algebraic_KernelIdeal_ReferenceIdeal_pre_attends_and_finite (hKernelIdeal := hKernelIdeal) (hReferenceIdeal := hReferenceIdeal) (hPre_attends_and_finite := hPre_attends_and_finite)
-- ==== Pre_attends_and_finite.lean ====
abbrev S16x8192x1024 : Shape := ⟨3, ![16, 8192, 1024]⟩
abbrev S16x8192 : Shape := ⟨2, ![16, 8192]⟩
abbrev S64x1024 : Shape := ⟨2, ![64, 1024]⟩
abbrev S1024x1024 : Shape := ⟨2, ![1024, 1024]⟩
abbrev S1024 : Shape := ⟨1, ![1024]⟩
abbrev S_ : Shape := ⟨0, ![]⟩
abbrev S16 : Shape := ⟨1, ![16]⟩

class Facts : Prop where
  reducesTo_S16x8192_S16_d1 : S16x8192.ReducesTo [1] S16
  h_S_ : 0 < S_.numel
  bcast_S_S16x8192x1024 : S_.BroadcastsInDim S16x8192x1024 (![] : Fin 0 → Fin S16x8192x1024.rank)
  bcast_S_S64x1024 : S_.BroadcastsInDim S64x1024 (![] : Fin 0 → Fin S64x1024.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn_part1 {F : FTy → Type} [FloatOps F] (main_v1 : IVec S16 1) (main_v4 : IVec S16x8192x1024 1) (main_v7 : IVec S64x1024 1) (main_v10 : IVec S1024x1024 1) (main_v13 : IVec S1024 1) (main_v16 : IVec S1024x1024 1) (main_v17 : FVec F S1024 .f32) : IVec S16 1 × IVec S16x8192x1024 1 × IVec S64x1024 1 × IVec S1024x1024 1 × IVec S1024 1 × IVec S1024x1024 1 × IVec S1024 1 :=
  let main_cst_4 : FVec F S_ .f32 := constant S_ .f32 0x7F800000#32
  let main_v18 : FVec F S1024 .f32 := broadcastInDim S1024 ![] bcast_S_S1024 main_cst_4
  let main_v19 : IVec S1024 1 := cmpf .olt main_v17 main_v18
  (main_v1, main_v4, main_v7, main_v10, main_v13, main_v16, main_v19)

def fn {F : FTy → Type} [FloatOps F] (main_arg0 : FVec F S16x8192x1024 .f32) (main_arg1 : IVec S16x8192 1) (main_arg2 : FVec F S64x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024 .f32) (main_arg12 : FVec F S1024 .f32) : IVec S16 1 × IVec S16x8192x1024 1 × IVec S64x1024 1 × IVec S1024x1024 1 × IVec S1024 1 × IVec S1024x1024 1 × IVec S1024 1 :=
  let main_v0 : IVec S16x8192 1 := noti main_arg1
  let main_c : IVec S_ 1 := constantI S_ 1 0#1
  let main_v1 : IVec S16 1 := (fun x v => Host.reduce IntOp.ori x v reducesTo_S16x8192_S16_d1 h_S_) main_v0 main_c
  let main_v2 : FVec F S16x8192x1024 .f32 := Host.absf main_arg0
  let main_cst : FVec F S_ .f32 := constant S_ .f32 0x7F800000#32
  let main_v3 : FVec F S16x8192x1024 .f32 := broadcastInDim S16x8192x1024 ![] bcast_S_S16x8192x1024 main_cst
  let main_v4 : IVec S16x8192x1024 1 := cmpf .olt main_v2 main_v3
  let main_v5 : FVec F S64x1024 .f32 := Host.absf main_arg2
  let main_cst_0 : FVec F S_ .f32 := constant S_ .f32 0x7F800000#32
  let main_v6 : FVec F S64x1024 .f32 := broadcastInDim S64x1024 ![] bcast_S_S64x1024 main_cst_0
  let main_v7 : IVec S64x1024 1 := cmpf .olt main_v5 main_v6
  let main_v8 : FVec F S1024x1024 .f32 := Host.absf main_arg3
  let main_cst_1 : FVec F S_ .f32 := constant S_ .f32 0x7F800000#32
  let main_v9 : FVec F S1024x1024 .f32 := broadcastInDim S1024x1024 ![] bcast_S_S1024x1024 main_cst_1
  let main_v10 : IVec S1024x1024 1 := cmpf .olt main_v8 main_v9
  let main_v11 : FVec F S1024 .f32 := Host.absf main_arg4
  let main_cst_2 : FVec F S_ .f32 := constant S_ .f32 0x7F800000#32
  let main_v12 : FVec F S1024 .f32 := broadcastInDim S1024 ![] bcast_S_S1024 main_cst_2
  let main_v13 : IVec S1024 1 := cmpf .olt main_v11 main_v12
  let main_v14 : FVec F S1024x1024 .f32 := Host.absf main_arg5
  let main_cst_3 : FVec F S_ .f32 := constant S_ .f32 0x7F800000#32
  let main_v15 : FVec F S1024x1024 .f32 := broadcastInDim S1024x1024 ![] bcast_S_S1024x1024 main_cst_3
  let main_v16 : IVec S1024x1024 1 := cmpf .olt main_v14 main_v15
  let main_v17 : FVec F S1024 .f32 := Host.absf main_arg6
  fn_part1 (F := F) main_v1 main_v4 main_v7 main_v10 main_v13 main_v16 main_v17
-- ==== Kernel.lean ====
abbrev S16x8192x1024 : Shape := ⟨3, ![16, 8192, 1024]⟩
abbrev S16x8192 : Shape := ⟨2, ![16, 8192]⟩
abbrev S64x1024 : Shape := ⟨2, ![64, 1024]⟩
abbrev S1024x1024 : Shape := ⟨2, ![1024, 1024]⟩
abbrev S1024 : Shape := ⟨1, ![1024]⟩
abbrev S128x1x1024 : Shape := ⟨3, ![128, 1, 1024]⟩
abbrev S1x1024 : Shape := ⟨2, ![1, 1024]⟩
abbrev S1024x2048 : Shape := ⟨2, ![1024, 2048]⟩
abbrev S2048 : Shape := ⟨1, ![2048]⟩
abbrev S1x2048 : Shape := ⟨2, ![1, 2048]⟩
abbrev S16x64x1024 : Shape := ⟨3, ![16, 64, 1024]⟩
abbrev S16x64x8192 : Shape := ⟨3, ![16, 64, 8192]⟩
abbrev S1x1024x1024 : Shape := ⟨3, ![1, 1024, 1024]⟩
abbrev S1x1x1024 : Shape := ⟨3, ![1, 1, 1024]⟩
abbrev S1x64x1024 : Shape := ⟨3, ![1, 64, 1024]⟩
abbrev S1x64x8192 : Shape := ⟨3, ![1, 64, 8192]⟩
abbrev S8192x1024 : Shape := ⟨2, ![8192, 1024]⟩
abbrev S8x64x8192 : Shape := ⟨3, ![8, 64, 8192]⟩
abbrev S64x64x1 : Shape := ⟨3, ![64, 64, 1]⟩
abbrev S64x128 : Shape := ⟨2, ![64, 128]⟩
abbrev S1024x128 : Shape := ⟨2, ![1024, 128]⟩
abbrev S64 : Shape := ⟨1, ![64]⟩
abbrev S64x1 : Shape := ⟨2, ![64, 1]⟩
abbrev S1x64x1 : Shape := ⟨3, ![1, 64, 1]⟩
abbrev S64x8192 : Shape := ⟨2, ![64, 8192]⟩

abbrev nBuf : Space → Nat
  | .hbm => 28
  | .vmem => 25
  | .smem => 0
  | _ => 0

abbrev bufTy : (tb : Table) → Fin (tcTables nBuf tb) → BufTy
  | .hbm, ⟨0, _⟩ => ⟨S16x8192x1024, .f32⟩
  | .hbm, ⟨1, _⟩ => ⟨S16x8192, .i1⟩
  | .hbm, ⟨2, _⟩ => ⟨S64x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S16x8192, .f32⟩
  | .hbm, ⟨14, _⟩ => ⟨S128x1x1024, .f32⟩
  | .hbm, ⟨15, _⟩ => ⟨S64x1024, .bf16⟩
  | .hbm, ⟨16, _⟩ => ⟨S1024x1024, .bf16⟩
  | .hbm, ⟨17, _⟩ => ⟨S1x1024, .f32⟩
  | .hbm, ⟨18, _⟩ => ⟨S1024x2048, .f32⟩
  | .hbm, ⟨19, _⟩ => ⟨S1024x2048, .bf16⟩
  | .hbm, ⟨20, _⟩ => ⟨S2048, .f32⟩
  | .hbm, ⟨21, _⟩ => ⟨S1x2048, .f32⟩
  | .hbm, ⟨22, _⟩ => ⟨S1024x1024, .bf16⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S16x64x1024, .f32⟩
  | .hbm, ⟨27, _⟩ => ⟨S16x64x8192, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S64x1024, .bf16⟩
  | .local _ .vmem, ⟨5, _⟩ => ⟨S1024x1024, .bf16⟩
  | .local _ .vmem, ⟨6, _⟩ => ⟨S1x1024, .f32⟩
  | .local _ .vmem, ⟨7, _⟩ => ⟨S1024x2048, .bf16⟩
  | .local _ .vmem, ⟨8, _⟩ => ⟨S1x2048, .f32⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x64x1024, .f32⟩
  | .local _ .vmem, ⟨14, _⟩ => ⟨S1x64x1024, .f32⟩
  | .local _ .vmem, ⟨15, _⟩ => ⟨S1x64x8192, .f32⟩
  | .local _ .vmem, ⟨16, _⟩ => ⟨S1x64x8192, .f32⟩
  | .local _ .vmem, ⟨17, _⟩ => ⟨S64x1024, .bf16⟩
  | .local _ .vmem, ⟨18, _⟩ => ⟨S1024x1024, .bf16⟩
  | .local _ .vmem, ⟨19, _⟩ => ⟨S1024x1024, .bf16⟩
  | .local _ .vmem, ⟨20, _⟩ => ⟨S8192x1024, .bf16⟩
  | .local _ .vmem, ⟨21, _⟩ => ⟨S8x64x8192, .bf16⟩
  | .local _ .vmem, ⟨22, _⟩ => ⟨S64x64x1, .f32⟩
  | .local _ .vmem, ⟨23, _⟩ => ⟨S64x64x1, .f32⟩
  | .local _ .vmem, ⟨24, _⟩ => ⟨S64x1024, .f32⟩
  | _, _ => ⟨S16x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13_0 : Ref sig .tc := ⟨.hbm, 26, rfl⟩
abbrev main_v13_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_scratch7 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c1024_i32 : BitVec 32 := 1024#32
  let v9 : BitVec 32 := Scalar.muli arg1 c1024_i32
  v9
def k0_off1 (i : grid0.Coords) : Fin 2 → Nat :=
  let arg1 : BitVec 32 := BitVec.ofNat 32 (i 1).val
  let c1024_i32 : BitVec 32 := 1024#32
  let v9 : BitVec 32 := Scalar.muli arg1 c1024_i32
  let v10 : BitVec 32 := v9
  let v26 : Index := Scalar.indexCast v10
  let c0_13 : Index := 0#32
  ![v26.toNat, 0]
def k0_off2 (i : grid0.Coords) : Fin 3 → Nat :=
  let c0_24 : Index := 0#32
  let c0_25 : Index := 0#32
  let arg1 : BitVec 32 := BitVec.ofNat 32 (i 1).val
  let c1024_i32 : BitVec 32 := 1024#32
  let v9 : BitVec 32 := Scalar.muli arg1 c1024_i32
  let v10 : BitVec 32 := v9
  let v45 : Index := Scalar.indexCast v10
  ![0, 0, v45.toNat]
def k0_off3 (i : grid0.Coords) (c0_i32_26 : BitVec 32) : Fin 3 → Nat :=
  let arg1 : BitVec 32 := BitVec.ofNat 32 (i 1).val
  let v49 : BitVec 32 := Scalar.addi c0_i32_26 arg1
  let v50 : Index := Scalar.indexCast v49
  let c0_27 : Index := 0#32
  let c0_28 : Index := 0#32
  ![v50.toNat, 0, 0]
def k0_off4 (i : grid0.Coords) : Fin 3 → Nat :=
  let c1 : Index := 1#32
  let c0_38 : Index := 0#32
  let arg1 : BitVec 32 := BitVec.ofNat 32 (i 1).val
  let c1024_i32 : BitVec 32 := 1024#32
  let v9 : BitVec 32 := Scalar.muli arg1 c1024_i32
  let v10 : BitVec 32 := v9
  let v72 : Index := Scalar.indexCast v10
  ![1, 0, v72.toNat]
def k0_off5 (i : grid0.Coords) : Fin 3 → Nat :=
  let c2 : Index := 2#32
  let c0_50 : Index := 0#32
  let arg1 : BitVec 32 := BitVec.ofNat 32 (i 1).val
  let c1024_i32 : BitVec 32 := 1024#32
  let v9 : BitVec 32 := Scalar.muli arg1 c1024_i32
  let v10 : BitVec 32 := v9
  let v99 : Index := Scalar.indexCast v10
  ![2, 0, v99.toNat]
def k0_off6 (i : grid0.Coords) : Fin 3 → Nat :=
  let c3 : Index := 3#32
  let c0_62 : Index := 0#32
  let arg1 : BitVec 32 := BitVec.ofNat 32 (i 1).val
  let c1024_i32 : BitVec 32 := 1024#32
  let v9 : BitVec 32 := Scalar.muli arg1 c1024_i32
  let v10 : BitVec 32 := v9
  let v126 : Index := Scalar.indexCast v10
  ![3, 0, v126.toNat]
def k0_off7 (i : grid0.Coords) : Fin 3 → Nat :=
  let c4 : Index := 4#32
  let c0_74 : Index := 0#32
  let arg1 : BitVec 32 := BitVec.ofNat 32 (i 1).val
  let c1024_i32 : BitVec 32 := 1024#32
  let v9 : BitVec 32 := Scalar.muli arg1 c1024_i32
  let v10 : BitVec 32 := v9
  let v153 : Index := Scalar.indexCast v10
  ![4, 0, v153.toNat]
def k0_off8 (i : grid0.Coords) : Fin 3 → Nat :=
  let c5 : Index := 5#32
  let c0_86 : Index := 0#32
  let arg1 : BitVec 32 := BitVec.ofNat 32 (i 1).val
  let c1024_i32 : BitVec 32 := 1024#32
  let v9 : BitVec 32 := Scalar.muli arg1 c1024_i32
  let v10 : BitVec 32 := v9
  let v180 : Index := Scalar.indexCast v10
  ![5, 0, v180.toNat]
def k0_off9 (i : grid0.Coords) : Fin 3 → Nat :=
  let c6 : Index := 6#32
  let c0_98 : Index := 0#32
  let arg1 : BitVec 32 := BitVec.ofNat 32 (i 1).val
  let c1024_i32 : BitVec 32 := 1024#32
  let v9 : BitVec 32 := Scalar.muli arg1 c1024_i32
  let v10 : BitVec 32 := v9
  let v207 : Index := Scalar.indexCast v10
  ![6, 0, v207.toNat]
def k0_off10 (i : grid0.Coords) : Fin 3 → Nat :=
  let c7 : Index := 7#32
  let c0_110 : Index := 0#32
  let arg1 : BitVec 32 := BitVec.ofNat 32 (i 1).val
  let c1024_i32 : BitVec 32 := 1024#32
  let v9 : BitVec 32 := Scalar.muli arg1 c1024_i32
  let v10 : BitVec 32 := v9
  let v234 : Index := Scalar.indexCast v10
  ![7, 0, v234.toNat]
def k0_cond2 (i : grid0.Coords) : BitVec 1 :=
  let arg1 : BitVec 32 := BitVec.ofNat 32 (i 1).val
  let c7_i32 : BitVec 32 := 7#32
  let v250 : BitVec 1 := Scalar.cmpi .eq arg1 c7_i32
  let v251 : BitVec 32 := Scalar.extui v250
  let c0_i32_117 : BitVec 32 := 0#32
  let v252 : BitVec 1 := Scalar.cmpi .ne v251 c0_i32_117
  v252

@[reducible] def k0_t1_loop : Scf.Loop 32 :=
  let c0_i32_118 : BitVec 32 := 0#32
  let c8_i32_119 : BitVec 32 := 8#32
  let v253 : BitVec 32 := Scalar.addi c0_i32_118 c8_i32_119
  let c1_i32 : BitVec 32 := 1#32
  ⟨c0_i32_118, v253, c1_i32⟩
def k0_mult2 (k0_t1 : Fin k0_t1_loop.trips) : BitVec 32 :=
  let c0_i32_118 : BitVec 32 := 0#32
  let c1_i32 : BitVec 32 := 1#32
  let arg23 : BitVec 32 := Scf.iv c0_i32_118 c1_i32 k0_t1
  let c128_i32 : BitVec 32 := 128#32
  let v290 : BitVec 32 := Scalar.muli arg23 c128_i32
  v290
def k0_off11 (k0_t1 : Fin k0_t1_loop.trips) (c0_i32_141 : BitVec 32) : Fin 3 → Nat :=
  let c0_i32_118 : BitVec 32 := 0#32
  let c1_i32 : BitVec 32 := 1#32
  let arg23 : BitVec 32 := Scf.iv c0_i32_118 c1_i32 k0_t1
  let c8_i32_140 : BitVec 32 := 8#32
  let v292 : BitVec 32 := Scalar.muli arg23 c8_i32_140
  let v293 : BitVec 32 := Scalar.addi v292 c0_i32_141
  let v294 : Index := Scalar.indexCast v293
  let c0_142 : Index := 0#32
  let c0_143 : Index := 0#32
  ![v294.toNat, 0, 0]
def k0_off12 (k0_t1 : Fin k0_t1_loop.trips) : Fin 3 → Nat :=
  let c0_i32_118 : BitVec 32 := 0#32
  let c1_i32 : BitVec 32 := 1#32
  let arg23 : BitVec 32 := Scf.iv c0_i32_118 c1_i32 k0_t1
  let c8_i32_167 : BitVec 32 := 8#32
  let v355 : BitVec 32 := Scalar.muli arg23 c8_i32_167
  let v356 : Index := Scalar.indexCast v355
  let c0_168 : Index := 0#32
  let c0_169 : Index := 0#32
  ![v356.toNat, 0, 0]
def k0_off13 (k0_t1 : Fin k0_t1_loop.trips) : Fin 3 → Nat :=
  let c0_i32_118 : BitVec 32 := 0#32
  let c1_i32 : BitVec 32 := 1#32
  let arg23 : BitVec 32 := Scf.iv c0_i32_118 c1_i32 k0_t1
  let c0_i32_200 : BitVec 32 := 0#32
  let c0_i32_201 : BitVec 32 := 0#32
  ![arg23.toNat, 0, 0]
def k0_off14 (k0_t1 : Fin k0_t1_loop.trips) : Fin 2 → Nat :=
  let c0_211 : Index := 0#32
  let c0_i32_118 : BitVec 32 := 0#32
  let c1_i32 : BitVec 32 := 1#32
  let arg23 : BitVec 32 := Scf.iv c0_i32_118 c1_i32 k0_t1
  let c128_i32 : BitVec 32 := 128#32
  let v290 : BitVec 32 := Scalar.muli arg23 c128_i32
  let v291 : BitVec 32 := v290
  let v428 : Index := Scalar.indexCast v291
  ![0, v428.toNat]
def k0_off15 (k0_t1 : Fin k0_t1_loop.trips) : Fin 2 → Nat :=
  let c1024_223 : Index := 1024#32
  let c0_i32_118 : BitVec 32 := 0#32
  let c1_i32 : BitVec 32 := 1#32
  let arg23 : BitVec 32 := Scf.iv c0_i32_118 c1_i32 k0_t1
  let c128_i32 : BitVec 32 := 128#32
  let v290 : BitVec 32 := Scalar.muli arg23 c128_i32
  let v291 : BitVec 32 := v290
  let v448 : Index := Scalar.indexCast v291
  ![1024, v448.toNat]
def k0_off16 (k0_t1 : Fin k0_t1_loop.trips) : Fin 2 → Nat :=
  let c2048_235 : Index := 2048#32
  let c0_i32_118 : BitVec 32 := 0#32
  let c1_i32 : BitVec 32 := 1#32
  let arg23 : BitVec 32 := Scf.iv c0_i32_118 c1_i32 k0_t1
  let c128_i32 : BitVec 32 := 128#32
  let v290 : BitVec 32 := Scalar.muli arg23 c128_i32
  let v291 : BitVec 32 := v290
  let v468 : Index := Scalar.indexCast v291
  ![2048, v468.toNat]
def k0_off17 (k0_t1 : Fin k0_t1_loop.trips) : Fin 2 → Nat :=
  let c3072_247 : Index := 3072#32
  let c0_i32_118 : BitVec 32 := 0#32
  let c1_i32 : BitVec 32 := 1#32
  let arg23 : BitVec 32 := Scf.iv c0_i32_118 c1_i32 k0_t1
  let c128_i32 : BitVec 32 := 128#32
  let v290 : BitVec 32 := Scalar.muli arg23 c128_i32
  let v291 : BitVec 32 := v290
  let v488 : Index := Scalar.indexCast v291
  ![3072, v488.toNat]
def k0_off18 (k0_t1 : Fin k0_t1_loop.trips) : Fin 2 → Nat :=
  let c4096_259 : Index := 4096#32
  let c0_i32_118 : BitVec 32 := 0#32
  let c1_i32 : BitVec 32 := 1#32
  let arg23 : BitVec 32 := Scf.iv c0_i32_118 c1_i32 k0_t1
  let c128_i32 : BitVec 32 := 128#32
  let v290 : BitVec 32 := Scalar.muli arg23 c128_i32
  let v291 : BitVec 32 := v290
  let v508 : Index := Scalar.indexCast v291
  ![4096, v508.toNat]
def k0_off19 (k0_t1 : Fin k0_t1_loop.trips) : Fin 2 → Nat :=
  let c5120_271 : Index := 5120#32
  let c0_i32_118 : BitVec 32 := 0#32
  let c1_i32 : BitVec 32 := 1#32
  let arg23 : BitVec 32 := Scf.iv c0_i32_118 c1_i32 k0_t1
  let c128_i32 : BitVec 32 := 128#32
  let v290 : BitVec 32 := Scalar.muli arg23 c128_i32
  let v291 : BitVec 32 := v290
  let v528 : Index := Scalar.indexCast v291
  ![5120, v528.toNat]
def k0_off20 (k0_t1 : Fin k0_t1_loop.trips) : Fin 2 → Nat :=
  let c6144_283 : Index := 6144#32
  let c0_i32_118 : BitVec 32 := 0#32
  let c1_i32 : BitVec 32 := 1#32
  let arg23 : BitVec 32 := Scf.iv c0_i32_118 c1_i32 k0_t1
  let c128_i32 : BitVec 32 := 128#32
  let v290 : BitVec 32 := Scalar.muli arg23 c128_i32
  let v291 : BitVec 32 := v290
  let v548 : Index := Scalar.indexCast v291
  ![6144, v548.toNat]
def k0_off21 (k0_t1 : Fin k0_t1_loop.trips) : Fin 2 → Nat :=
  let c7168_295 : Index := 7168#32
  let c0_i32_118 : BitVec 32 := 0#32
  let c1_i32 : BitVec 32 := 1#32
  let arg23 : BitVec 32 := Scf.iv c0_i32_118 c1_i32 k0_t1
  let c128_i32 : BitVec 32 := 128#32
  let v290 : BitVec 32 := Scalar.muli arg23 c128_i32
  let v291 : BitVec 32 := v290
  let v568 : Index := Scalar.indexCast v291
  ![7168, v568.toNat]
def k0_off22 (k0_t1 : Fin k0_t1_loop.trips) : Fin 2 → Nat :=
  let c0_297 : Index := 0#32
  let c0_i32_118 : BitVec 32 := 0#32
  let c1_i32 : BitVec 32 := 1#32
  let arg23 : BitVec 32 := Scf.iv c0_i32_118 c1_i32 k0_t1
  let c128_i32 : BitVec 32 := 128#32
  let v290 : BitVec 32 := Scalar.muli arg23 c128_i32
  let v291 : BitVec 32 := v290
  let v572 : Index := Scalar.indexCast v291
  ![0, v572.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x64x8192 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== KernelIdeal.lean ====
variable {F : FTy → Type} [FloatOps F] [Named F]
def κ : String → Option EReal := fun
  | "mask" => some ⊤
  | _ => none
-- ==== ReferenceIdeal.lean ====
abbrev S16x8192x1024 : Shape := ⟨3, ![16, 8192, 1024]⟩
abbrev S16x8192 : Shape := ⟨2, ![16, 8192]⟩
abbrev S64x1024 : Shape := ⟨2, ![64, 1024]⟩
abbrev S1024x1024 : Shape := ⟨2, ![1024, 1024]⟩
abbrev S1024 : Shape := ⟨1, ![1024]⟩
abbrev S1x1024 : Shape := ⟨2, ![1, 1024]⟩
abbrev S64x8x128 : Shape := ⟨3, ![64, 8, 128]⟩
abbrev S1x1x1024 : Shape := ⟨3, ![1, 1, 1024]⟩
abbrev S16x8192x8x128 : Shape := ⟨4, ![16, 8192, 8, 128]⟩
abbrev S8x16x8192x64 : Shape := ⟨4, ![8, 16, 8192, 64]⟩
abbrev S16x8x64x8192 : Shape := ⟨4, ![16, 8, 64, 8192]⟩
abbrev S_ : Shape := ⟨0, ![]⟩
abbrev S16x1x1x8192 : Shape := ⟨4, ![16, 1, 1, 8192]⟩
abbrev S16x8x64 : Shape := ⟨3, ![16, 8, 64]⟩
abbrev S16x8x64x1 : Shape := ⟨4, ![16, 8, 64, 1]⟩
abbrev S16x8x128x64 : Shape := ⟨4, ![16, 8, 128, 64]⟩
abbrev S16x64x8x128 : Shape := ⟨4, ![16, 64, 8, 128]⟩
abbrev S16x64x1024 : Shape := ⟨3, ![16, 64, 1024]⟩
abbrev S16x64 : Shape := ⟨2, ![16, 64]⟩
abbrev S16x64x1 : Shape := ⟨3, ![16, 64, 1]⟩
abbrev S16x64x8192 : Shape := ⟨3, ![16, 64, 8192]⟩

abbrev nBuf : Space → Nat
  | .hbm => 109
  | .vmem => 0
  | .smem => 0
  | _ => 0

abbrev bufTy : (tb : Table) → Fin (tcTables nBuf tb) → BufTy
  | .hbm, ⟨0, _⟩ => ⟨S16x8192x1024, .f32⟩
  | .hbm, ⟨1, _⟩ => ⟨S16x8192, .i1⟩
  | .hbm, ⟨2, _⟩ => ⟨S64x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S64x1024, .f32⟩
  | .hbm, ⟨14, _⟩ => ⟨S1x1024, .f32⟩
  | .hbm, ⟨15, _⟩ => ⟨S64x1024, .f32⟩
  | .hbm, ⟨16, _⟩ => ⟨S64x1024, .f32⟩
  | .hbm, ⟨17, _⟩ => ⟨S64x8x128, .f32⟩
  | .hbm, ⟨18, _⟩ => ⟨S16x8192x1024, .f32⟩
  | .hbm, ⟨19, _⟩ => ⟨S1x1x1024, .f32⟩
  | .hbm, ⟨20, _⟩ => ⟨S16x8192x1024, .f32⟩
  | .hbm, ⟨21, _⟩ => ⟨S16x8192x1024, .f32⟩
  | .hbm, ⟨22, _⟩ => ⟨S16x8192x8x128, .f32⟩
  | .hbm, ⟨23, _⟩ => ⟨S16x8192x1024, .f32⟩
  | .hbm, ⟨24, _⟩ => ⟨S1x1x1024, .f32⟩
  | .hbm, ⟨25, _⟩ => ⟨S16x8192x1024, .f32⟩
  | .hbm, ⟨26, _⟩ => ⟨S16x8192x1024, .f32⟩
  | .hbm, ⟨27, _⟩ => ⟨S16x8192x8x128, .f32⟩
  | .hbm, ⟨28, _⟩ => ⟨S8x16x8192x64, .f32⟩
  | .hbm, ⟨29, _⟩ => ⟨S16x8x64x8192, .f32⟩
  | .hbm, ⟨30, _⟩ => ⟨S_, .f32⟩
  | .hbm, ⟨31, _⟩ => ⟨S16x8x64x8192, .f32⟩
  | .hbm, ⟨32, _⟩ => ⟨S16x8x64x8192, .f32⟩
  | .hbm, ⟨33, _⟩ => ⟨S16x1x1x8192, .i1⟩
  | .hbm, ⟨34, _⟩ => ⟨S_, .f32⟩
  | .hbm, ⟨35, _⟩ => ⟨S_, .f32⟩
  | .hbm, ⟨36, _⟩ => ⟨S16x8x64x8192, .i1⟩
  | .hbm, ⟨37, _⟩ => ⟨S16x8x64x8192, .f32⟩
  | .hbm, ⟨38, _⟩ => ⟨S16x8x64x8192, .f32⟩
  | .hbm, ⟨39, _⟩ => ⟨S_, .f32⟩
  | .hbm, ⟨40, _⟩ => ⟨S16x8x64, .f32⟩
  | .hbm, ⟨41, _⟩ => ⟨S_, .f32⟩
  | .hbm, ⟨42, _⟩ => ⟨S16x8x64, .f32⟩
  | .hbm, ⟨43, _⟩ => ⟨S16x8x64, .f32⟩
  | .hbm, ⟨44, _⟩ => ⟨S16x8x64x1, .f32⟩
  | .hbm, ⟨45, _⟩ => ⟨S16x8x64x8192, .f32⟩
  | .hbm, ⟨46, _⟩ => ⟨S16x8x64x8192, .f32⟩
  | .hbm, ⟨47, _⟩ => ⟨S16x8x64x8192, .f32⟩
  | .hbm, ⟨48, _⟩ => ⟨S_, .f32⟩
  | .hbm, ⟨49, _⟩ => ⟨S16x8x64, .f32⟩
  | .hbm, ⟨50, _⟩ => ⟨S16x8x64x1, .f32⟩
  | .hbm, ⟨51, _⟩ => ⟨S16x8x64x8192, .f32⟩
  | .hbm, ⟨52, _⟩ => ⟨S16x8x64x8192, .f32⟩
  | .hbm, ⟨53, _⟩ => ⟨S16x8x128x64, .f32⟩
  | .hbm, ⟨54, _⟩ => ⟨S16x64x8x128, .f32⟩
  | .hbm, ⟨55, _⟩ => ⟨S16x64x1024, .f32⟩
  | .hbm, ⟨56, _⟩ => ⟨S16x64x1024, .f32⟩
  | .hbm, ⟨57, _⟩ => ⟨S1x1x1024, .f32⟩
  | .hbm, ⟨58, _⟩ => ⟨S16x64x1024, .f32⟩
  | .hbm, ⟨59, _⟩ => ⟨S16x64x1024, .f32⟩
  | .hbm, ⟨60, _⟩ => ⟨S_, .f32⟩
  | .hbm, ⟨61, _⟩ => ⟨S16x64, .f32⟩
  | .hbm, ⟨62, _⟩ => ⟨S16x64x1, .f32⟩
  | .hbm, ⟨63, _⟩ => ⟨S_, .f32⟩
  | .hbm, ⟨64, _⟩ => ⟨S16x64x1, .f32⟩
  | .hbm, ⟨65, _⟩ => ⟨S16x64x1, .f32⟩
  | .hbm, ⟨66, _⟩ => ⟨S_, .i32⟩
  | .hbm, ⟨67, _⟩ => ⟨S_, .f32⟩
  | .hbm, ⟨68, _⟩ => ⟨S16x64, .f32⟩
  | .hbm, ⟨69, _⟩ => ⟨S16x64x1, .f32⟩
  | .hbm, ⟨70, _⟩ => ⟨S_, .f32⟩
  | .hbm, ⟨71, _⟩ => ⟨S16x64x1, .f32⟩
  | .hbm, ⟨72, _⟩ => ⟨S16x64x1, .f32⟩
  | .hbm, ⟨73, _⟩ => ⟨S16x64x1024, .f32⟩
  | .hbm, ⟨74, _⟩ => ⟨S16x64x1024, .f32⟩
  | .hbm, ⟨75, _⟩ => ⟨S16x64x1024, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S16x64, .f32⟩
  | .hbm, ⟨81, _⟩ => ⟨S16x64x1, .f32⟩
  | .hbm, ⟨82, _⟩ => ⟨S16x64x1, .f32⟩
  | .hbm, ⟨83, _⟩ => ⟨S16x64x1, .f32⟩
  | .hbm, ⟨84, _⟩ => ⟨S_, .f32⟩
  | .hbm, ⟨85, _⟩ => ⟨S_, .i1⟩
  | .hbm, ⟨86, _⟩ => ⟨S_, .f32⟩
  | .hbm, ⟨87, _⟩ => ⟨S_, .f32⟩
  | .hbm, ⟨88, _⟩ => ⟨S16x64x1, .f32⟩
  | .hbm, ⟨89, _⟩ => ⟨S16x64x1, .f32⟩
  | .hbm, ⟨90, _⟩ => ⟨S16x64x1024, .f32⟩
  | .hbm, ⟨91, _⟩ => ⟨S16x64x1024, .f32⟩
  | .hbm, ⟨92, _⟩ => ⟨S_, .f32⟩
  | .hbm, ⟨93, _⟩ => ⟨S16x64x1, .f32⟩
  | .hbm, ⟨94, _⟩ => ⟨S16x64x1, .f32⟩
  | .hbm, ⟨95, _⟩ => ⟨S16x64x1, .f32⟩
  | .hbm, ⟨96, _⟩ => ⟨S16x64x1024, .f32⟩
  | .hbm, ⟨97, _⟩ => ⟨S16x64x1024, .f32⟩
  | .hbm, ⟨98, _⟩ => ⟨S1x1x1024, .f32⟩
  | .hbm, ⟨99, _⟩ => ⟨S16x64x1024, .f32⟩
  | .hbm, ⟨100, _⟩ => ⟨S16x64x1024, .f32⟩
  | .hbm, ⟨101, _⟩ => ⟨S1x1x1024, .f32⟩
  | .hbm, ⟨102, _⟩ => ⟨S16x64x1024, .f32⟩
  | .hbm, ⟨103, _⟩ => ⟨S16x64x1024, .f32⟩
  | .hbm, ⟨104, _⟩ => ⟨S_, .f32⟩
  | .hbm, ⟨105, _⟩ => ⟨S16x64x8192, .f32⟩
  | .hbm, ⟨106, _⟩ => ⟨S_, .f32⟩
  | .hbm, ⟨107, _⟩ => ⟨S16x64x8192, .f32⟩
  | .hbm, ⟨108, _⟩ => ⟨S16x64x8192, .f32⟩
  | _, _ => ⟨S16x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_0 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v20 : Ref sig .tc := ⟨.hbm, 38, rfl⟩
abbrev main_cst_1 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_4 : Ref sig .tc := ⟨.hbm, 60, rfl⟩
abbrev main_v39 : Ref sig .tc := ⟨.hbm, 61, rfl⟩
abbrev main_v40 : Ref sig .tc := ⟨.hbm, 62, rfl⟩
abbrev main_cst_5 : Ref sig .tc := ⟨.hbm, 63, rfl⟩
abbrev main_v41 : Ref sig .tc := ⟨.hbm, 64, rfl⟩
abbrev main_v42 : Ref sig .tc := ⟨.hbm, 65, rfl⟩
abbrev main_c : Ref sig .tc := ⟨.hbm, 66, rfl⟩
abbrev main_call1_cst : Ref sig .tc := ⟨.hbm, 67, rfl⟩
abbrev main_call1_v0 : Ref sig .tc := ⟨.hbm, 68, rfl⟩
abbrev main_call1_v1 : Ref sig .tc := ⟨.hbm, 69, rfl⟩
abbrev main_call1_cst_0 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_v6 : Ref sig .tc := ⟨.hbm, 75, rfl⟩
abbrev main_call1_v7 : Ref sig .tc := ⟨.hbm, 76, rfl⟩
abbrev main_call1_cst_1 : Ref sig .tc := ⟨.hbm, 77, rfl⟩
abbrev main_call1_v8 : Ref sig .tc := ⟨.hbm, 78, rfl⟩
abbrev main_call1_cst_2 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_call1_v12 : Ref sig .tc := ⟨.hbm, 83, rfl⟩
abbrev main_call1_cst_3 : Ref sig .tc := ⟨.hbm, 84, rfl⟩
abbrev main_call1_v13 : Ref sig .tc := ⟨.hbm, 85, rfl⟩
abbrev main_call1_cst_4 : Ref sig .tc := ⟨.hbm, 86, rfl⟩
abbrev main_call1_call0_v0 : Ref sig .tc := ⟨.hbm, 87, rfl⟩
abbrev main_call1_call0_v1 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_cst_6 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_cst_7 : Ref sig .tc := ⟨.hbm, 104, rfl⟩
abbrev main_v57 : Ref sig .tc := ⟨.hbm, 105, rfl⟩
abbrev main_cst_8 : Ref sig .tc := ⟨.hbm, 106, rfl⟩
abbrev main_v58 : Ref sig .tc := ⟨.hbm, 107, rfl⟩
abbrev main_v59 : Ref sig .tc := ⟨.hbm, 108, rfl⟩

abbrev nD : Nat := 1
abbrev τ : Topo := Topo.v7x

variable {F : FTy → Type} [FloatOps F]
-- ==== Proof.Loop.lean ====
/- The loop over the eight heads at the end of a batch: what one trip writes, and the invariant by which a run of
   the body goes through the loop.  One trip only reads the values `arg18`, the exponentials `arg19`, the block maxima
   `arg20` and the block sums `arg21`; it adds to the averaged attention `arg14` and writes one head's columns of `arg22`. -/
module

public import proofs.«01_k».proof.Proof.Gen.KernelIdeal.Loops
public import Idealize.ShloMosaic.Lib.Ring
public import Idealize.ShloMosaic.Lib.WordCmp

@[expose] public section

set_option maxRecDepth 16384
set_option maxHeartbeats 4000000

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What a trip holds: the four buffers that it reads, at `X18` to `X21`, and the two that it writes, at `f14` and `f22`. -/
abbrev Held (c : Dev nD) (arg14 : Memref sig .tc .vmem S1x64x8192 .f32) (arg18 : Memref sig .tc .vmem S8192x1024 .bf16) (arg19 : Memref sig .tc .vmem S8x64x8192 .bf16)
    (arg20 : Memref sig .tc .vmem S64x64x1 .f32) (arg21 : Memref sig .tc .vmem S64x64x1 .f32) (arg22 : Memref sig .tc .vmem S64x1024 .f32)
    (X18 : BufTy.Contents (Elt F) arg18.view.ty) (X19 : BufTy.Contents (Elt F) arg19.view.ty) (X20 : BufTy.Contents (Elt F) arg20.view.ty) (X21 : BufTy.Contents (Elt F) arg21.view.ty) (f14 : BufTy.Contents (Elt F) arg14.view.ty) (f22 : BufTy.Contents (Elt F) arg22.view.ty) : sProp 𝕄 :=
  iprop((arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ (arg21.view.loc (c : Thread nD τ) ↦[arg21.view.set]{fullShare} X21) ∗ (arg14.view.loc (c : Thread nD τ) ↦[arg14.view.set]{fullShare} f14) ∗ (arg22.view.loc (c : Thread nD τ) ↦[arg22.view.set]{fullShare} f22))

section Trip

variable (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S64x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x2048 .bf16) (harg7 : arg7.IsWhole) (arg8 : Memref sig .tc .vmem S1x2048 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x64x1024 .f32) (harg13 : arg13.IsWhole) (arg14 : Memref sig .tc .vmem S1x64x8192 .f32) (harg14 : arg14.IsWhole) (arg15 : Memref sig .tc .vmem S64x1024 .bf16) (harg15 : arg15.IsWhole) (arg16 : Memref sig .tc .vmem S1024x1024 .bf16) (harg16 : arg16.IsWhole) (arg17 : Memref sig .tc .vmem S1024x1024 .bf16) (harg17 : arg17.IsWhole) (arg18 : Memref sig .tc .vmem S8192x1024 .bf16) (harg18 : arg18.IsWhole) (arg19 : Memref sig .tc .vmem S8x64x8192 .bf16) (harg19 : arg19.IsWhole) (arg20 : Memref sig .tc .vmem S64x64x1 .f32) (harg20 : arg20.IsWhole) (arg21 : Memref sig .tc .vmem S64x64x1 .f32) (harg21 : arg21.IsWhole) (arg22 : Memref sig .tc .vmem S64x1024 .f32) (harg22 : arg22.IsWhole) (k0_h2 : k0_cond2 i = 1#1)
  (X18 : BufTy.Contents (Elt F) arg18.view.ty) (X19 : BufTy.Contents (Elt F) arg19.view.ty) (X20 : BufTy.Contents (Elt F) arg20.view.ty) (X21 : BufTy.Contents (Elt F) arg21.view.ty) (G14 : BufTy.Contents (Elt F) arg14.view.ty) (G22 : BufTy.Contents (Elt F) arg22.view.ty)

/-- One trip, for head `k`: the two lists of pieces that it writes are found by running it. -/
@[irreducible] def trip (k : Fin k0_t1_loop.trips) :
    Σ' (L14 : BufTy.Contents (Elt F) arg14.view.ty → BufTy.Contents (Elt F) arg22.view.ty → List (View.Piece (Elt F) S1x64x8192 .f32)),
      { L22 : BufTy.Contents (Elt F) arg14.view.ty → BufTy.Contents (Elt F) arg22.view.ty → List (View.Piece (Elt F) S64x1024 .f32) //
        ∀ (E : Set ℕ) (f14 : BufTy.Contents (Elt F) arg14.view.ty) (f22 : BufTy.Contents (Elt F) arg22.view.ty),
          Held (F := F) c arg14 arg18 arg19 arg20 arg21 arg22 X18 X19 X20 X21 f14 f22
          ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h2 k PUnit.unit)
              (fun _ => Held (F := F) c arg14 arg18 arg19 arg20 arg21 arg22 X18 X19 X20 X21 (arg14.view.writes (Elt F) f14 (L14 f14 f22)) (arg22.view.writes (Elt F) f22 (L22 f14 f22))) } := by
  have hk : k.val < 8 := Nat.lt_of_lt_of_le k.isLt k0_t1_abs.2.1
  refine ⟨?_, ?_, fun E f14 f22 => ?run⟩
  case run =>
    unfold k0_t1_body
    iintro ⟨R18, R19, R20, R21, W14, W22⟩
    sl_exec
    sl_step
    sl_close

/-- What the two written buffers hold before trip `k`, from what they held (`G14`, `G22`) when the loop was entered. -/
def held : ℕ → BufTy.Contents (Elt F) arg14.view.ty × BufTy.Contents (Elt F) arg22.view.ty
  | 0 => (G14, G22)
  | k + 1 => if h : k < k0_t1_loop.trips then
      (arg14.view.writes (Elt F) (held k).1 ((trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h2 X18 X19 X20 X21 ⟨k, h⟩).1 (held k).1 (held k).2),
       arg22.view.writes (Elt F) (held k).2 ((trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h2 X18 X19 X20 X21 ⟨k, h⟩).2.1 (held k).1 (held k).2))
    else held k

theorem held_succ (k : Fin k0_t1_loop.trips) :
    held (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h2 X18 X19 X20 X21 G14 G22 (k.val + 1)
      = (arg14.view.writes (Elt F) (held (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h2 X18 X19 X20 X21 G14 G22 k.val).1
            ((trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h2 X18 X19 X20 X21 k).1 (held (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h2 X18 X19 X20 X21 G14 G22 k.val).1 (held (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h2 X18 X19 X20 X21 G14 G22 k.val).2),
         arg22.view.writes (Elt F) (held (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h2 X18 X19 X20 X21 G14 G22 k.val).2
            ((trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h2 X18 X19 X20 X21 k).2.1 (held (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h2 X18 X19 X20 X21 G14 G22 k.val).1 (held (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h2 X18 X19 X20 X21 G14 G22 k.val).2)) := by
  rw [held.eq_2]; exact dif_pos k.isLt

/-- The invariant before trip `k`: the four buffers read as they were, the two written at `held k`. -/
abbrev inv (k : ℕ) (_u : PUnit) : sProp 𝕄 :=
  iprop((arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ (arg21.view.loc (c : Thread nD τ) ↦[arg21.view.set]{fullShare} X21)
    ∗ (∃ f, (arg14.view.loc (c : Thread nD τ) ↦[arg14.view.set]{fullShare} f) ∗ ⌜f = (held (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h2 X18 X19 X20 X21 G14 G22 k).1⌝)
    ∗ (∃ f, (arg22.view.loc (c : Thread nD τ) ↦[arg22.view.set]{fullShare} f) ∗ ⌜f = (held (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h2 X18 X19 X20 X21 G14 G22 k).2⌝))

end Trip

set_option warn.classDefReducibility false in
/-- The loop by its invariant. -/
@[sl_loop] def loopInv (c : Dev nD) (E : Set ℕ) (i : grid0.Coords) (arg2 : Memref sig .tc .vmem S1x1024x1024 .f32) (harg2 : arg2.IsWhole) (arg3 : Memref sig .tc .vmem S1x1x1024 .f32) (harg3 : arg3.IsWhole) (arg4 : Memref sig .tc .vmem S64x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x2048 .bf16) (harg7 : arg7.IsWhole) (arg8 : Memref sig .tc .vmem S1x2048 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x64x1024 .f32) (harg13 : arg13.IsWhole) (arg14 : Memref sig .tc .vmem S1x64x8192 .f32) (harg14 : arg14.IsWhole) (arg15 : Memref sig .tc .vmem S64x1024 .bf16) (harg15 : arg15.IsWhole) (arg16 : Memref sig .tc .vmem S1024x1024 .bf16) (harg16 : arg16.IsWhole) (arg17 : Memref sig .tc .vmem S1024x1024 .bf16) (harg17 : arg17.IsWhole) (arg18 : Memref sig .tc .vmem S8192x1024 .bf16) (harg18 : arg18.IsWhole) (arg19 : Memref sig .tc .vmem S8x64x8192 .bf16) (harg19 : arg19.IsWhole) (arg20 : Memref sig .tc .vmem S64x64x1 .f32) (harg20 : arg20.IsWhole) (arg21 : Memref sig .tc .vmem S64x64x1 .f32) (harg21 : arg21.IsWhole) (arg22 : Memref sig .tc .vmem S64x1024 .f32) (harg22 : arg22.IsWhole) (k0_h2 : k0_cond2 i = 1#1)
    (X18 : BufTy.Contents (Elt F) arg18.view.ty) (X19 : BufTy.Contents (Elt F) arg19.view.ty) (X20 : BufTy.Contents (Elt F) arg20.view.ty) (X21 : BufTy.Contents (Elt F) arg21.view.ty) (G14 : BufTy.Contents (Elt F) arg14.view.ty) (G22 : BufTy.Contents (Elt F) arg22.view.ty) :
    Cert.KernelIdeal.Gen.LoopInvTy_k0_t1 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h2 where
  inv := inv (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h2 X18 X19 X20 X21 G14 G22
  step k acc := by
    iintro ⟨R18, R19, R20, R21, ⟨%f14, W14, %h14⟩, ⟨%f22, W22, %h22⟩⟩
    iapply (wp_wand_r Idealize.ShloMosaic.frame (wpE (defs₀ (F := F)) Variants.none (c : Thread nD τ) none) E)
    isplitl [R18 R19 R20 R21 W14 W22]
    · iapply ((trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h2 X18 X19 X20 X21 k).2.2 E f14 f22)
      isplitl [R18]; · iexact R18
      isplitl [R19]; · iexact R19
      isplitl [R20]; · iexact R20
      isplitl [R21]; · iexact R21
      isplitl [W14]; · iexact W14
      iexact W22
    · iintro %_ ⟨R18, R19, R20, R21, W14, W22⟩
      isplitl [R18]; · iexact R18
      isplitl [R19]; · iexact R19
      isplitl [R20]; · iexact R20
      isplitl [R21]; · iexact R21
      rw [held_succ]
      isplitl [W14]
      · iexists _; isplitl [W14]; · iexact W14
        ipureintro; rw [h14, h22]
      iexists _; isplitl [W22]; · iexact W22
      ipureintro; rw [h14, h22]

end Cert.KernelIdeal.Head

end
-- ==== Proof.Body.lean ====
/- The body of the kernel at one point of the grid, in the three cases that the grid meets: the first block of a batch
   (the projected queries are computed, the averaged attention is cleared), a middle block, and the last block (the heads are
   finished and the two outputs written).  What each buffer holds afterwards is found by running the body. -/
module

public import proofs.«01_k».proof.Proof.Loop
public import proofs.«01_k».proof.Proof.Gen.KernelIdeal.Skeleton

@[expose] public section

set_option maxRecDepth 16384
set_option maxHeartbeats 4000000

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Buffer `m` of core `c` held whole at `X`. -/
abbrev At (c : Dev nD) {S : Shape} {e : EltTy} (m : Memref sig .tc .vmem S e) (X : BufTy.Contents (Elt F) m.view.ty) : sProp 𝕄 :=
  iprop(m.view.loc (c : Thread nD τ) ↦[m.view.set]{fullShare} X)

variable (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S64x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x2048 .bf16) (harg7 : arg7.IsWhole) (arg8 : Memref sig .tc .vmem S1x2048 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x64x1024 .f32) (harg13 : arg13.IsWhole) (arg14 : Memref sig .tc .vmem S1x64x8192 .f32) (harg14 : arg14.IsWhole) (arg15 : Memref sig .tc .vmem S64x1024 .bf16) (harg15 : arg15.IsWhole) (arg16 : Memref sig .tc .vmem S1024x1024 .bf16) (harg16 : arg16.IsWhole) (arg17 : Memref sig .tc .vmem S1024x1024 .bf16) (harg17 : arg17.IsWhole) (arg18 : Memref sig .tc .vmem S8192x1024 .bf16) (harg18 : arg18.IsWhole) (arg19 : Memref sig .tc .vmem S8x64x8192 .bf16) (harg19 : arg19.IsWhole) (arg20 : Memref sig .tc .vmem S64x64x1 .f32) (harg20 : arg20.IsWhole) (arg21 : Memref sig .tc .vmem S64x64x1 .f32) (harg21 : arg21.IsWhole) (arg22 : Memref sig .tc .vmem S64x1024 .f32) (harg22 : arg22.IsWhole)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty)

/-- A middle block. -/
@[irreducible] def middle (h1 : ¬ k0_cond1 i = 1#1) (h2 : ¬ k0_cond2 i = 1#1) :
    Σ' (g16 : BufTy.Contents (Elt F) arg16.view.ty), Σ' (g17 : BufTy.Contents (Elt F) arg17.view.ty), Σ' (g18 : BufTy.Contents (Elt F) arg18.view.ty), Σ' (g19 : BufTy.Contents (Elt F) arg19.view.ty), Σ' (g20 : BufTy.Contents (Elt F) arg20.view.ty), { g21 : BufTy.Contents (Elt F) arg21.view.ty //
      ∀ E : Set ℕ, iprop(At c arg2 X2 ∗ At c arg3 X3 ∗ At c arg4 X4 ∗ At c arg5 X5 ∗ At c arg6 X6 ∗ At c arg7 X7 ∗ At c arg8 X8 ∗ At c arg9 X9 ∗ At c arg10 X10 ∗ At c arg11 X11 ∗ At c arg12 X12 ∗ At c arg13 X13 ∗ At c arg14 X14 ∗ At c arg15 X15 ∗ At c arg16 X16 ∗ At c arg17 X17 ∗ At c arg18 X18 ∗ At c arg19 X19 ∗ At c arg20 X20 ∗ At c arg21 X21 ∗ At c arg22 X22)
        ⊢ wp frame (wpE (defs₀ (F := F)) Variants.none (c : Thread nD τ) none) E (cc0_attn_graph_compress (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
            (fun _ => iprop(At c arg2 X2 ∗ At c arg3 X3 ∗ At c arg4 X4 ∗ At c arg5 X5 ∗ At c arg6 X6 ∗ At c arg7 X7 ∗ At c arg8 X8 ∗ At c arg9 X9 ∗ At c arg10 X10 ∗ At c arg11 X11 ∗ At c arg12 X12 ∗ At c arg13 X13 ∗ At c arg14 X14 ∗ At c arg15 X15 ∗ At c arg16 g16 ∗ At c arg17 g17 ∗ At c arg18 g18 ∗ At c arg19 g19 ∗ At c arg20 g20 ∗ At c arg21 g21 ∗ At c arg22 X22)) } := by
  refine ⟨?_, ?_, ?_, ?_, ?_, ?_, fun E => ?run⟩
  case run =>
    simp only [cc0_attn_graph_compress_eq_skeleton]; unfold cc0_attn_graph_compress_skel
    iintro ⟨H2, H3, H4, H5, H6, H7, H8, H9, H10, H11, H12, H13, H14, H15, H16, H17, H18, H19, H20, H21, H22⟩
    sl_exec
    sl_step
    sl_close

/-- The first block of a batch. -/
@[irreducible] def first (h1 : k0_cond1 i = 1#1) (h2 : ¬ k0_cond2 i = 1#1) :
    Σ' (g14 : BufTy.Contents (Elt F) arg14.view.ty), Σ' (g15 : BufTy.Contents (Elt F) arg15.view.ty), Σ' (g16 : BufTy.Contents (Elt F) arg16.view.ty), Σ' (g17 : BufTy.Contents (Elt F) arg17.view.ty), Σ' (g18 : BufTy.Contents (Elt F) arg18.view.ty), Σ' (g19 : BufTy.Contents (Elt F) arg19.view.ty), Σ' (g20 : BufTy.Contents (Elt F) arg20.view.ty), { g21 : BufTy.Contents (Elt F) arg21.view.ty //
      ∀ E : Set ℕ, iprop(At c arg2 X2 ∗ At c arg3 X3 ∗ At c arg4 X4 ∗ At c arg5 X5 ∗ At c arg6 X6 ∗ At c arg7 X7 ∗ At c arg8 X8 ∗ At c arg9 X9 ∗ At c arg10 X10 ∗ At c arg11 X11 ∗ At c arg12 X12 ∗ At c arg13 X13 ∗ At c arg14 X14 ∗ At c arg15 X15 ∗ At c arg16 X16 ∗ At c arg17 X17 ∗ At c arg18 X18 ∗ At c arg19 X19 ∗ At c arg20 X20 ∗ At c arg21 X21 ∗ At c arg22 X22)
        ⊢ wp frame (wpE (defs₀ (F := F)) Variants.none (c : Thread nD τ) none) E (cc0_attn_graph_compress (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
            (fun _ => iprop(At c arg2 X2 ∗ At c arg3 X3 ∗ At c arg4 X4 ∗ At c arg5 X5 ∗ At c arg6 X6 ∗ At c arg7 X7 ∗ At c arg8 X8 ∗ At c arg9 X9 ∗ At c arg10 X10 ∗ At c arg11 X11 ∗ At c arg12 X12 ∗ At c arg13 X13 ∗ At c arg14 g14 ∗ At c arg15 g15 ∗ At c arg16 g16 ∗ At c arg17 g17 ∗ At c arg18 g18 ∗ At c arg19 g19 ∗ At c arg20 g20 ∗ At c arg21 g21 ∗ At c arg22 X22)) } := by
  refine ⟨?_, ?_, ?_, ?_, ?_, ?_, ?_, ?_, fun E => ?run⟩
  case run =>
    simp only [cc0_attn_graph_compress_eq_skeleton]; unfold cc0_attn_graph_compress_skel
    iintro ⟨H2, H3, H4, H5, H6, H7, H8, H9, H10, H11, H12, H13, H14, H15, H16, H17, H18, H19, H20, H21, H22⟩
    sl_exec
    sl_step
    sl_close

/-- The last block of a batch. -/
@[irreducible] def last (h1 : ¬ k0_cond1 i = 1#1) (h2 : k0_cond2 i = 1#1) :
    Σ' (g13 : BufTy.Contents (Elt F) arg13.view.ty), Σ' (g14 : BufTy.Contents (Elt F) arg14.view.ty), Σ' (g16 : BufTy.Contents (Elt F) arg16.view.ty), Σ' (g17 : BufTy.Contents (Elt F) arg17.view.ty), Σ' (g18 : BufTy.Contents (Elt F) arg18.view.ty), Σ' (g19 : BufTy.Contents (Elt F) arg19.view.ty), Σ' (g20 : BufTy.Contents (Elt F) arg20.view.ty), Σ' (g21 : BufTy.Contents (Elt F) arg21.view.ty), { g22 : BufTy.Contents (Elt F) arg22.view.ty //
      ∀ E : Set ℕ, iprop(At c arg2 X2 ∗ At c arg3 X3 ∗ At c arg4 X4 ∗ At c arg5 X5 ∗ At c arg6 X6 ∗ At c arg7 X7 ∗ At c arg8 X8 ∗ At c arg9 X9 ∗ At c arg10 X10 ∗ At c arg11 X11 ∗ At c arg12 X12 ∗ At c arg13 X13 ∗ At c arg14 X14 ∗ At c arg15 X15 ∗ At c arg16 X16 ∗ At c arg17 X17 ∗ At c arg18 X18 ∗ At c arg19 X19 ∗ At c arg20 X20 ∗ At c arg21 X21 ∗ At c arg22 X22)
        ⊢ wp frame (wpE (defs₀ (F := F)) Variants.none (c : Thread nD τ) none) E (cc0_attn_graph_compress (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
            (fun _ => iprop(At c arg2 X2 ∗ At c arg3 X3 ∗ At c arg4 X4 ∗ At c arg5 X5 ∗ At c arg6 X6 ∗ At c arg7 X7 ∗ At c arg8 X8 ∗ At c arg9 X9 ∗ At c arg10 X10 ∗ At c arg11 X11 ∗ At c arg12 X12 ∗ At c arg13 g13 ∗ At c arg14 g14 ∗ At c arg15 X15 ∗ At c arg16 g16 ∗ At c arg17 g17 ∗ At c arg18 g18 ∗ At c arg19 g19 ∗ At c arg20 g20 ∗ At c arg21 g21 ∗ At c arg22 g22)) } := by
  refine ⟨?_, ?_, ?_, ?_, ?_, ?_, ?_, ?_, ?_, fun E => ?run⟩
  case run =>
    simp only [cc0_attn_graph_compress_eq_skeleton]; unfold cc0_attn_graph_compress_skel
    iintro ⟨H2, H3, H4, H5, H6, H7, H8, H9, H10, H11, H12, H13, H14, H15, H16, H17, H18, H19, H20, H21, H22⟩
    sl_exec
    sl_step
    sl_close

end Cert.KernelIdeal.Head

end
-- ==== Proof.Obligation.lean ====
/- The region's body at every point of the grid: what is tracked of the scratch and of the two outputs, and that a predicate
   kept by the three cases of the body is kept by the whole run. -/
module

public import proofs.«01_k».proof.Proof.Body
public import proofs.«01_k».proof.Proof.Gen.KernelIdeal.Points
public import proofs.«01_k».proof.Proof.Gen.KernelIdeal.Frame
public import Idealize.ShloMosaic.Lib.Pipeline.DatRel

@[expose] public section

set_option maxRecDepth 16384
set_option maxHeartbeats 4000000

noncomputable section

namespace Cert.KernelIdeal.Head

open Cert.KernelIdeal Cert.KernelIdeal.Gen
open Idealize.ShloMosaic Idealize.ShloMosaic.Pipeline Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The contents of a buffer. -/
abbrev Ct {S : Shape} {e : EltTy} (m : Memref sig .tc .vmem S e) := BufTy.Contents (Elt F) m.view.ty

/-- The contents of the input windows' buffers at point `t`: each reads as the window's block. -/
structure Inp (m : (ℓ : Loc nD τ sig) → Buf (Elt F) ℓ) (c : Dev nD) (t : Fin cfg0.N) where
  X2 : Ct (F := F) (st0_0 t)
  X3 : Ct (F := F) (st0_1 t)
  X4 : Ct (F := F) (st0_2 t)
  X5 : Ct (F := F) (st0_3 t)
  X6 : Ct (F := F) (st0_4 t)
  X7 : Ct (F := F) (st0_5 t)
  X8 : Ct (F := F) (st0_6 t)
  X9 : Ct (F := F) (st0_7 t)
  X10 : Ct (F := F) (st0_8 t)
  X11 : Ct (F := F) (st0_9 t)
  X12 : Ct (F := F) (st0_10 t)
  r2 : (st0_0 t).view.read (Elt F) X2 = iblk m c 0 t
  r3 : (st0_1 t).view.read (Elt F) X3 = iblk m c 1 t
  r4 : (st0_2 t).view.read (Elt F) X4 = iblk m c 2 t
  r5 : (st0_3 t).view.read (Elt F) X5 = iblk m c 3 t
  r6 : (st0_4 t).view.read (Elt F) X6 = iblk m c 4 t
  r7 : (st0_5 t).view.read (Elt F) X7 = iblk m c 5 t
  r8 : (st0_6 t).view.read (Elt F) X8 = iblk m c 6 t
  r9 : (st0_7 t).view.read (Elt F) X9 = iblk m c 7 t
  r10 : (st0_8 t).view.read (Elt F) X10 = iblk m c 8 t
  r11 : (st0_9 t).view.read (Elt F) X11 = iblk m c 9 t
  r12 : (st0_10 t).view.read (Elt F) X12 = iblk m c 10 t

/-- The contents of the scratch. -/
structure Scr where
  f15 : Ct (F := F) (Memref.whole cc0_scratch0)
  f16 : Ct (F := F) (Memref.whole cc0_scratch1)
  f17 : Ct (F := F) (Memref.whole cc0_scratch2)
  f18 : Ct (F := F) (Memref.whole cc0_scratch3)
  f19 : Ct (F := F) (Memref.whole cc0_scratch4)
  f20 : Ct (F := F) (Memref.whole cc0_scratch5)
  f21 : Ct (F := F) (Memref.whole cc0_scratch6)
  f22 : Ct (F := F) (Memref.whole cc0_scratch7)

/-- What the buffers hold after the body has run at point `t` (middle case). -/
def middleOut (m : (ℓ : Loc nD τ sig) → Buf (Elt F) ℓ) (c : Dev nD) (t : Fin cfg0.N) (h1 : ¬ k0_cond1 (grid0.coords t) = 1#1) (h2 : ¬ k0_cond2 (grid0.coords t) = 1#1) (I : Inp m c t) (f13 : Ct (F := F) (st0_11 t)) (f14 : Ct (F := F) (st0_12 t)) (s : Scr (F := F)) :=
  middle (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)
    I.X2 I.X3 I.X4 I.X5 I.X6 I.X7 I.X8 I.X9 I.X10 I.X11 I.X12 f13 f14 s.f15 s.f16 s.f17 s.f18 s.f19 s.f20 s.f21 s.f22 h1 h2

/-- The scratch after the body at point `t` (middle case). -/
def middleScr (m : (ℓ : Loc nD τ sig) → Buf (Elt F) ℓ) (c : Dev nD) (t : Fin cfg0.N) (h1 : ¬ k0_cond1 (grid0.coords t) = 1#1) (h2 : ¬ k0_cond2 (grid0.coords t) = 1#1) (I : Inp m c t) (f13 : Ct (F := F) (st0_11 t)) (f14 : Ct (F := F) (st0_12 t)) (s : Scr (F := F)) : Scr (F := F) :=
  ⟨s.f15, (middleOut m c t h1 h2 I f13 f14 s).1, (middleOut m c t h1 h2 I f13 f14 s).2.1, (middleOut m c t h1 h2 I f13 f14 s).2.2.1, (middleOut m c t h1 h2 I f13 f14 s).2.2.2.1, (middleOut m c t h1 h2 I f13 f14 s).2.2.2.2.1, (middleOut m c t h1 h2 I f13 f14 s).2.2.2.2.2.1, s.f22⟩

/-- What the buffers hold after the body has run at point `t` (first case). -/
def firstOut (m : (ℓ : Loc nD τ sig) → Buf (Elt F) ℓ) (c : Dev nD) (t : Fin cfg0.N) (h1 : k0_cond1 (grid0.coords t) = 1#1) (h2 : ¬ k0_cond2 (grid0.coords t) = 1#1) (I : Inp m c t) (f13 : Ct (F := F) (st0_11 t)) (f14 : Ct (F := F) (st0_12 t)) (s : Scr (F := F)) :=
  first (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)
    I.X2 I.X3 I.X4 I.X5 I.X6 I.X7 I.X8 I.X9 I.X10 I.X11 I.X12 f13 f14 s.f15 s.f16 s.f17 s.f18 s.f19 s.f20 s.f21 s.f22 h1 h2

/-- The scratch after the body at point `t` (first case). -/
def firstScr (m : (ℓ : Loc nD τ sig) → Buf (Elt F) ℓ) (c : Dev nD) (t : Fin cfg0.N) (h1 : k0_cond1 (grid0.coords t) = 1#1) (h2 : ¬ k0_cond2 (grid0.coords t) = 1#1) (I : Inp m c t) (f13 : Ct (F := F) (st0_11 t)) (f14 : Ct (F := F) (st0_12 t)) (s : Scr (F := F)) : Scr (F := F) :=
  ⟨(firstOut m c t h1 h2 I f13 f14 s).2.1, (firstOut m c t h1 h2 I f13 f14 s).2.2.1, (firstOut m c t h1 h2 I f13 f14 s).2.2.2.1, (firstOut m c t h1 h2 I f13 f14 s).2.2.2.2.1, (firstOut m c t h1 h2 I f13 f14 s).2.2.2.2.2.1, (firstOut m c t h1 h2 I f13 f14 s).2.2.2.2.2.2.1, (firstOut m c t h1 h2 I f13 f14 s).2.2.2.2.2.2.2.1, s.f22⟩

/-- What the buffers hold after the body has run at point `t` (last case). -/
def lastOut (m : (ℓ : Loc nD τ sig) → Buf (Elt F) ℓ) (c : Dev nD) (t : Fin cfg0.N) (h1 : ¬ k0_cond1 (grid0.coords t) = 1#1) (h2 : k0_cond2 (grid0.coords t) = 1#1) (I : Inp m c t) (f13 : Ct (F := F) (st0_11 t)) (f14 : Ct (F := F) (st0_12 t)) (s : Scr (F := F)) :=
  last (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)
    I.X2 I.X3 I.X4 I.X5 I.X6 I.X7 I.X8 I.X9 I.X10 I.X11 I.X12 f13 f14 s.f15 s.f16 s.f17 s.f18 s.f19 s.f20 s.f21 s.f22 h1 h2

/-- The scratch after the body at point `t` (last case). -/
def lastScr (m : (ℓ : Loc nD τ sig) → Buf (Elt F) ℓ) (c : Dev nD) (t : Fin cfg0.N) (h1 : ¬ k0_cond1 (grid0.coords t) = 1#1) (h2 : k0_cond2 (grid0.coords t) = 1#1) (I : Inp m c t) (f13 : Ct (F := F) (st0_11 t)) (f14 : Ct (F := F) (st0_12 t)) (s : Scr (F := F)) : Scr (F := F) :=
  ⟨s.f15, (lastOut m c t h1 h2 I f13 f14 s).2.2.1, (lastOut m c t h1 h2 I f13 f14 s).2.2.2.1, (lastOut m c t h1 h2 I f13 f14 s).2.2.2.2.1, (lastOut m c t h1 h2 I f13 f14 s).2.2.2.2.2.1, (lastOut m c t h1 h2 I f13 f14 s).2.2.2.2.2.2.1, (lastOut m c t h1 h2 I f13 f14 s).2.2.2.2.2.2.2.1, (lastOut m c t h1 h2 I f13 f14 s).2.2.2.2.2.2.2.2.1⟩

/-- What is tracked through the run: a predicate of the scratch before each point, and one of each output block, kept by the
    three cases of the body. -/
structure Track (m : (ℓ : Loc nD τ sig) → Buf (Elt F) ℓ) (c : Dev nD) where
  S : ℕ → Scr (F := F) → Prop
  R11 : Fin cfg0.N → ((cfg0.win 11).block.Idx → Elt F (cfg0.win 11).elt) → Prop
  R12 : Fin cfg0.N → ((cfg0.win 12).block.Idx → Elt F (cfg0.win 12).elt) → Prop
  start : ∀ s, S 0 s
  on_middle : ∀ (t : Fin cfg0.N) (h1 : ¬ k0_cond1 (grid0.coords t) = 1#1) (h2 : ¬ k0_cond2 (grid0.coords t) = 1#1) (I : Inp m c t) (f13 : Ct (F := F) (st0_11 t)) (f14 : Ct (F := F) (st0_12 t)) (s : Scr (F := F)), S t.val s →
    (∀ h0 : t.val ≠ 0, R12 ⟨t.val - 1, Nat.lt_of_le_of_lt (Nat.sub_le _ _) t.isLt⟩ ((st0_12 t).view.read (Elt F) f14)) →
    S (t.val + 1) (middleScr m c t h1 h2 I f13 f14 s)
      ∧ R11 t ((st0_11 t).view.read (Elt F) f13)
      ∧ R12 t ((st0_12 t).view.read (Elt F) f14)
  on_first : ∀ (t : Fin cfg0.N) (h1 : k0_cond1 (grid0.coords t) = 1#1) (h2 : ¬ k0_cond2 (grid0.coords t) = 1#1) (I : Inp m c t) (f13 : Ct (F := F) (st0_11 t)) (f14 : Ct (F := F) (st0_12 t)) (s : Scr (F := F)), S t.val s →
    S (t.val + 1) (firstScr m c t h1 h2 I f13 f14 s)
      ∧ R11 t ((st0_11 t).view.read (Elt F) f13)
      ∧ R12 t ((st0_12 t).view.read (Elt F) (firstOut m c t h1 h2 I f13 f14 s).1)
  on_last : ∀ (t : Fin cfg0.N) (h1 : ¬ k0_cond1 (grid0.coords t) = 1#1) (h2 : k0_cond2 (grid0.coords t) = 1#1) (I : Inp m c t) (f13 : Ct (F := F) (st0_11 t)) (f14 : Ct (F := F) (st0_12 t)) (s : Scr (F := F)), S t.val s →
    (∀ h0 : t.val ≠ 0, R12 ⟨t.val - 1, Nat.lt_of_le_of_lt (Nat.sub_le _ _) t.isLt⟩ ((st0_12 t).view.read (Elt F) f14)) →
    S (t.val + 1) (lastScr m c t h1 h2 I f13 f14 s)
      ∧ R11 t ((st0_11 t).view.read (Elt F) (lastOut m c t h1 h2 I f13 f14 s).1)
      ∧ R12 t ((st0_12 t).view.read (Elt F) (lastOut m c t h1 h2 I f13 f14 s).2.1)

variable (m : (ℓ : Loc nD τ sig) → Buf (Elt F) ℓ) (ρ : Dev nD → PrngReg)

theorem cond1_iff : ∀ t : Fin grid0.N, k0_cond1 (grid0.coords t) = 1#1 ↔ t.val % 8 = 0 := by decide +kernel
theorem cond2_iff : ∀ t : Fin grid0.N, k0_cond2 (grid0.coords t) = 1#1 ↔ t.val % 8 = 7 := by decide +kernel
theorem fetch12 : ∀ t : Fin cfg0.N, (cfg0.win 12).fetch t = false := fun _ => rfl

theorem at_whole (c : Dev nD) (b : Ref sig .tc) (f : b.ty.Contents (Elt F)) :
    (iprop(((Memref.whole b).view.loc (c : Thread nD τ) ↦[(Memref.whole b).view.set]{fullShare} f)) : sProp 𝕄) = iprop(((c : Thread nD τ).loc b) ↦{fullShare} f) := by
  simp only [Memref.view_whole, View.set_whole]

/-- The two outputs are the windows of which only a predicate is kept. -/
def marked (w : Fin cfg0.W) : Bool := decide (11 ≤ w.val)

/-- The predicate kept of each window's block. -/
def kept {c : Dev nD} (tr : Track m c) : (w : Fin cfg0.W) → Fin cfg0.N → ((cfg0.win w).block.Idx → Elt F (cfg0.win w).elt) → Prop
  | ⟨11, _⟩ => tr.R11
  | ⟨12, _⟩ => tr.R12
  | _ => fun _ _ => True

/-- The region's proof data: the inputs hold their blocks, the scratch meets the tracked predicate. -/
def dat (c : Dev nD) (tr : Track m c) : Dat τ (Elt F) Unit ℕ (UR sig nD τ) ℕ cfg0 c where
  A w := V m c (Pipeline.arrRef spec0 w)
  after := fun
    | ⟨0, _⟩ => fun t => iblk m c 0 t
    | ⟨1, _⟩ => fun t => iblk m c 1 t
    | ⟨2, _⟩ => fun t => iblk m c 2 t
    | ⟨3, _⟩ => fun t => iblk m c 3 t
    | ⟨4, _⟩ => fun t => iblk m c 4 t
    | ⟨5, _⟩ => fun t => iblk m c 5 t
    | ⟨6, _⟩ => fun t => iblk m c 6 t
    | ⟨7, _⟩ => fun t => iblk m c 7 t
    | ⟨8, _⟩ => fun t => iblk m c 8 t
    | ⟨9, _⟩ => fun t => iblk m c 9 t
    | ⟨10, _⟩ => fun t => iblk m c 10 t
    | w => fun t => Pipeline.Dat.unnamed (cfg := cfg0) w t
  Φ t := iprop(∃ s : Scr (F := F), ⌜tr.S t.val s⌝ ∗ At c (Memref.whole cc0_scratch0) s.f15 ∗ At c (Memref.whole cc0_scratch1) s.f16 ∗ At c (Memref.whole cc0_scratch2) s.f17 ∗ At c (Memref.whole cc0_scratch3) s.f18 ∗ At c (Memref.whole cc0_scratch4) s.f19 ∗ At c (Memref.whole cc0_scratch5) s.f20 ∗ At c (Memref.whole cc0_scratch6) s.f21 ∗ At c (Memref.whole cc0_scratch7) s.f22 ∗ ∃ r, prngReg c r)
  q _ := fullShare
  owed _ := 0

variable (c : Dev nD) (tr : Track m c)

theorem dat_A (w : Fin cfg0.W) : (dat m c tr).A w = V m c (Pipeline.arrRef spec0 w) := by dsimp only [dat]
theorem after_0 (t : Fin cfg0.N) : (dat m c tr).after 0 t = iblk m c 0 t := rfl
theorem after_1 (t : Fin cfg0.N) : (dat m c tr).after 1 t = iblk m c 1 t := rfl
theorem after_2 (t : Fin cfg0.N) : (dat m c tr).after 2 t = iblk m c 2 t := rfl
theorem after_3 (t : Fin cfg0.N) : (dat m c tr).after 3 t = iblk m c 3 t := rfl
theorem after_4 (t : Fin cfg0.N) : (dat m c tr).after 4 t = iblk m c 4 t := rfl
theorem after_5 (t : Fin cfg0.N) : (dat m c tr).after 5 t = iblk m c 5 t := rfl
theorem after_6 (t : Fin cfg0.N) : (dat m c tr).after 6 t = iblk m c 6 t := rfl
theorem after_7 (t : Fin cfg0.N) : (dat m c tr).after 7 t = iblk m c 7 t := rfl
theorem after_8 (t : Fin cfg0.N) : (dat m c tr).after 8 t = iblk m c 8 t := rfl
theorem after_9 (t : Fin cfg0.N) : (dat m c tr).after 9 t = iblk m c 9 t := rfl
theorem after_10 (t : Fin cfg0.N) : (dat m c tr).after 10 t = iblk m c 10 t := rfl

theorem before_0 (t : Fin cfg0.N) (d) : (dat m c tr).before 0 t d = iblk m c 0 t :=
  before0_0_of m (dat m c tr) (dat_A m c tr 0) (after_0 m c tr) t d
theorem before_1 (t : Fin cfg0.N) (d) : (dat m c tr).before 1 t d = iblk m c 1 t :=
  before0_1_of m (dat m c tr) (dat_A m c tr 1) (after_1 m c tr) t d
theorem before_2 (t : Fin cfg0.N) (d) : (dat m c tr).before 2 t d = iblk m c 2 t :=
  before0_2_of m (dat m c tr) (dat_A m c tr 2) (after_2 m c tr) t d
theorem before_3 (t : Fin cfg0.N) (d) : (dat m c tr).before 3 t d = iblk m c 3 t :=
  before0_3_of m (dat m c tr) (dat_A m c tr 3) (after_3 m c tr) t d
theorem before_4 (t : Fin cfg0.N) (d) : (dat m c tr).before 4 t d = iblk m c 4 t :=
  before0_4_of m (dat m c tr) (dat_A m c tr 4) (after_4 m c tr) t d
theorem before_5 (t : Fin cfg0.N) (d) : (dat m c tr).before 5 t d = iblk m c 5 t :=
  before0_5_of m (dat m c tr) (dat_A m c tr 5) (after_5 m c tr) t d
theorem before_6 (t : Fin cfg0.N) (d) : (dat m c tr).before 6 t d = iblk m c 6 t :=
  before0_6_of m (dat m c tr) (dat_A m c tr 6) (after_6 m c tr) t d
theorem before_7 (t : Fin cfg0.N) (d) : (dat m c tr).before 7 t d = iblk m c 7 t :=
  before0_7_of m (dat m c tr) (dat_A m c tr 7) (after_7 m c tr) t d
theorem before_8 (t : Fin cfg0.N) (d) : (dat m c tr).before 8 t d = iblk m c 8 t :=
  before0_8_of m (dat m c tr) (dat_A m c tr 8) (after_8 m c tr) t d
theorem before_9 (t : Fin cfg0.N) (d) : (dat m c tr).before 9 t d = iblk m c 9 t :=
  before0_9_of m (dat m c tr) (dat_A m c tr 9) (after_9 m c tr) t d
theorem before_10 (t : Fin cfg0.N) (d) : (dat m c tr).before 10 t d = iblk m c 10 t :=
  before0_10_of m (dat m c tr) (dat_A m c tr 10) (after_10 m c tr) t d

/-- An output block found at a point that does not begin a batch is one that the point before left. -/
theorem finds12 (t : Fin cfg0.N) (ht : ¬ k0_cond1 (grid0.coords t) = 1#1) (Y) (hY : ((dat m c tr).toRRel marked (kept m tr)).Finds 12 t Y) (h0 : t.val ≠ 0) :
    tr.R12 ⟨t.val - 1, Nat.lt_of_le_of_lt (Nat.sub_le _ _) t.isLt⟩ Y := by
  rcases (RDat.finds_of_pos _ (fetch12 t) h0 Y).mp hY with h | h
  · have := (flush0_12 _).mp h
    have hn : ¬ t.val % 8 = 0 := fun h => ht ((cond1_iff t).mpr h)
    dsimp only at this
    omega
  · exact Dat.toRRel_leaves (dat m c tr) (fgt := marked) (Rl := kept m tr) (w := 12) rfl h

/-- What a run of the body at `t` returns. -/
def bodyPost (t : Fin cfg0.N) : sProp 𝕄 :=
  iprop((dat m c tr).Φ t.succ ∗ (dat m c tr).owesAt () t.succ
    ∗ owns (c : Thread nD τ) (st0_0 t) fullShare ((dat m c tr).after 0 t) ∗ owns (c : Thread nD τ) (st0_1 t) fullShare ((dat m c tr).after 1 t) ∗ owns (c : Thread nD τ) (st0_2 t) fullShare ((dat m c tr).after 2 t) ∗ owns (c : Thread nD τ) (st0_3 t) fullShare ((dat m c tr).after 3 t) ∗ owns (c : Thread nD τ) (st0_4 t) fullShare ((dat m c tr).after 4 t) ∗ owns (c : Thread nD τ) (st0_5 t) fullShare ((dat m c tr).after 5 t) ∗ owns (c : Thread nD τ) (st0_6 t) fullShare ((dat m c tr).after 6 t) ∗ owns (c : Thread nD τ) (st0_7 t) fullShare ((dat m c tr).after 7 t) ∗ owns (c : Thread nD τ) (st0_8 t) fullShare ((dat m c tr).after 8 t) ∗ owns (c : Thread nD τ) (st0_9 t) fullShare ((dat m c tr).after 9 t) ∗ owns (c : Thread nD τ) (st0_10 t) fullShare ((dat m c tr).after 10 t)
    ∗ (∃ X, ⌜tr.R11 t X⌝ ∗ owns (c : Thread nD τ) (st0_11 t) fullShare X)
    ∗ (∃ X, ⌜tr.R12 t X⌝ ∗ owns (c : Thread nD τ) (st0_12 t) fullShare X))

/-- What a run of the body at `t` is given. -/
def bodyPre (t : Fin cfg0.N) : sProp 𝕄 :=
  iprop((dat m c tr).Φ t.castSucc ∗ (dat m c tr).owesAt () t.castSucc
    ∗ (∃ d, owns (c : Thread nD τ) (st0_0 t) fullShare ((dat m c tr).before 0 t d)) ∗ (∃ d, owns (c : Thread nD τ) (st0_1 t) fullShare ((dat m c tr).before 1 t d)) ∗ (∃ d, owns (c : Thread nD τ) (st0_2 t) fullShare ((dat m c tr).before 2 t d)) ∗ (∃ d, owns (c : Thread nD τ) (st0_3 t) fullShare ((dat m c tr).before 3 t d)) ∗ (∃ d, owns (c : Thread nD τ) (st0_4 t) fullShare ((dat m c tr).before 4 t d)) ∗ (∃ d, owns (c : Thread nD τ) (st0_5 t) fullShare ((dat m c tr).before 5 t d)) ∗ (∃ d, owns (c : Thread nD τ) (st0_6 t) fullShare ((dat m c tr).before 6 t d)) ∗ (∃ d, owns (c : Thread nD τ) (st0_7 t) fullShare ((dat m c tr).before 7 t d)) ∗ (∃ d, owns (c : Thread nD τ) (st0_8 t) fullShare ((dat m c tr).before 8 t d)) ∗ (∃ d, owns (c : Thread nD τ) (st0_9 t) fullShare ((dat m c tr).before 9 t d)) ∗ (∃ d, owns (c : Thread nD τ) (st0_10 t) fullShare ((dat m c tr).before 10 t d))
    ∗ (∃ Y, ⌜((dat m c tr).toRRel marked (kept m tr)).Finds 11 t Y⌝ ∗ owns (c : Thread nD τ) (st0_11 t) fullShare Y)
    ∗ (∃ Y, ⌜((dat m c tr).toRRel marked (kept m tr)).Finds 12 t Y⌝ ∗ owns (c : Thread nD τ) (st0_12 t) fullShare Y))

theorem pack (t : Fin cfg0.N) (I : Inp m c t) (s : Scr (F := F)) (g13 : Ct (F := F) (st0_11 t)) (g14 : Ct (F := F) (st0_12 t))
    (hS : tr.S (t.val + 1) s) (h11 : tr.R11 t ((st0_11 t).view.read (Elt F) g13)) (h12 : tr.R12 t ((st0_12 t).view.read (Elt F) g14)) :
    iprop(At c (st0_0 t) I.X2 ∗ At c (st0_1 t) I.X3 ∗ At c (st0_2 t) I.X4 ∗ At c (st0_3 t) I.X5 ∗ At c (st0_4 t) I.X6 ∗ At c (st0_5 t) I.X7 ∗ At c (st0_6 t) I.X8 ∗ At c (st0_7 t) I.X9 ∗ At c (st0_8 t) I.X10 ∗ At c (st0_9 t) I.X11 ∗ At c (st0_10 t) I.X12 ∗ At c (st0_11 t) g13 ∗ At c (st0_12 t) g14 ∗ At c (Memref.whole cc0_scratch0) s.f15 ∗ At c (Memref.whole cc0_scratch1) s.f16 ∗ At c (Memref.whole cc0_scratch2) s.f17 ∗ At c (Memref.whole cc0_scratch3) s.f18 ∗ At c (Memref.whole cc0_scratch4) s.f19 ∗ At c (Memref.whole cc0_scratch5) s.f20 ∗ At c (Memref.whole cc0_scratch6) s.f21 ∗ At c (Memref.whole cc0_scratch7) s.f22 ∗ (∃ r, prngReg c r) ∗ (dat m c tr).owesAt () t.succ)
      ⊢ bodyPost m c tr t := by
  unfold bodyPost
  rw [after_0 m c tr t, after_1 m c tr t, after_2 m c tr t, after_3 m c tr t, after_4 m c tr t, after_5 m c tr t, after_6 m c tr t, after_7 m c tr t, after_8 m c tr t, after_9 m c tr t, after_10 m c tr t,
    show (dat m c tr).Φ t.succ = iprop(∃ s : Scr (F := F), ⌜tr.S (t.val + 1) s⌝ ∗ At c (Memref.whole cc0_scratch0) s.f15 ∗ At c (Memref.whole cc0_scratch1) s.f16 ∗ At c (Memref.whole cc0_scratch2) s.f17 ∗ At c (Memref.whole cc0_scratch3) s.f18 ∗ At c (Memref.whole cc0_scratch4) s.f19 ∗ At c (Memref.whole cc0_scratch5) s.f20 ∗ At c (Memref.whole cc0_scratch6) s.f21 ∗ At c (Memref.whole cc0_scratch7) s.f22 ∗ ∃ r, prngReg c r) from rfl]
  iintro ⟨H2, H3, H4, H5, H6, H7, H8, H9, H10, H11, H12, H13, H14, H15, H16, H17, H18, H19, H20, H21, H22, HR, HO⟩
  isplitl [H15 H16 H17 H18 H19 H20 H21 H22 HR]
  · iexists s
    isplitr; · ipureintro; exact hS
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact HR
  isplitl [HO]; · iexact HO
  isplitl [H2]
  · unfold owns; iexists I.X2; isplitr; · ipureintro; exact I.r2
    iexact H2
  isplitl [H3]
  · unfold owns; iexists I.X3; isplitr; · ipureintro; exact I.r3
    iexact H3
  isplitl [H4]
  · unfold owns; iexists I.X4; isplitr; · ipureintro; exact I.r4
    iexact H4
  isplitl [H5]
  · unfold owns; iexists I.X5; isplitr; · ipureintro; exact I.r5
    iexact H5
  isplitl [H6]
  · unfold owns; iexists I.X6; isplitr; · ipureintro; exact I.r6
    iexact H6
  isplitl [H7]
  · unfold owns; iexists I.X7; isplitr; · ipureintro; exact I.r7
    iexact H7
  isplitl [H8]
  · unfold owns; iexists I.X8; isplitr; · ipureintro; exact I.r8
    iexact H8
  isplitl [H9]
  · unfold owns; iexists I.X9; isplitr; · ipureintro; exact I.r9
    iexact H9
  isplitl [H10]
  · unfold owns; iexists I.X10; isplitr; · ipureintro; exact I.r10
    iexact H10
  isplitl [H11]
  · unfold owns; iexists I.X11; isplitr; · ipureintro; exact I.r11
    iexact H11
  isplitl [H12]
  · unfold owns; iexists I.X12; isplitr; · ipureintro; exact I.r12
    iexact H12
  isplitl [H13]
  · iexists _; isplitr; · ipureintro; exact h11
    unfold owns; iexists g13; isplitr; · ipureintro; rfl
    iexact H13
  · iexists _; isplitr; · ipureintro; exact h12
    unfold owns; iexists g14; isplitr; · ipureintro; rfl
    iexact H14

theorem sound_body (t : Fin cfg0.N) :
    bodyPre m c tr t ⊢ wp frame (wpE (defs₀ (F := F)) Variants.none c none) Set.univ (bodyAt0 t) (fun _ => bodyPost m c tr t) := by
  unfold bodyPre bodyAt0
  rw [show (dat m c tr).owesAt () t.castSucc = (dat m c tr).owesAt () t.succ from rfl,
    show (dat m c tr).Φ t.castSucc = iprop(∃ s : Scr (F := F), ⌜tr.S t.val s⌝ ∗ At c (Memref.whole cc0_scratch0) s.f15 ∗ At c (Memref.whole cc0_scratch1) s.f16 ∗ At c (Memref.whole cc0_scratch2) s.f17 ∗ At c (Memref.whole cc0_scratch3) s.f18 ∗ At c (Memref.whole cc0_scratch4) s.f19 ∗ At c (Memref.whole cc0_scratch5) s.f20 ∗ At c (Memref.whole cc0_scratch6) s.f21 ∗ At c (Memref.whole cc0_scratch7) s.f22 ∗ ∃ r, prngReg c r) from rfl]
  simp only [before_0, before_1, before_2, before_3, before_4, before_5, before_6, before_7, before_8, before_9, before_10]
  unfold owns
  iintro ⟨⟨%s, %hS, H15, H16, H17, H18, H19, H20, H21, H22, HR⟩, HO, ⟨%d0, %X2, %r2, H2⟩, ⟨%d1, %X3, %r3, H3⟩, ⟨%d2, %X4, %r4, H4⟩, ⟨%d3, %X5, %r5, H5⟩, ⟨%d4, %X6, %r6, H6⟩, ⟨%d5, %X7, %r7, H7⟩, ⟨%d6, %X8, %r8, H8⟩, ⟨%d7, %X9, %r9, H9⟩, ⟨%d8, %X10, %r10, H10⟩, ⟨%d9, %X11, %r11, H11⟩, ⟨%d10, %X12, %r12, H12⟩, ⟨%Y13, %hY13, %f13, %r13, H13⟩, ⟨%Y14, %hY14, %f14, %r14, H14⟩⟩
  let I : Inp m c t := ⟨X2, X3, X4, X5, X6, X7, X8, X9, X10, X11, X12, r2, r3, r4, r5, r6, r7, r8, r9, r10, r11, r12⟩
  by_cases h1 : k0_cond1 (grid0.coords t) = 1#1
  · have h2 : ¬ k0_cond2 (grid0.coords t) = 1#1 := fun h => by have := (cond1_iff t).mp h1; have := (cond2_iff t).mp h; omega

    have hst := tr.on_first t h1 h2 I f13 f14 s hS
    iapply (wp_wand_r Idealize.ShloMosaic.frame (wpE (defs₀ (F := F)) Variants.none (c : Thread nD τ) none) Set.univ)
    isplitl [H2 H3 H4 H5 H6 H7 H8 H9 H10 H11 H12 H13 H14 H15 H16 H17 H18 H19 H20 H21 H22]
    · iapply ((firstOut m c t h1 h2 I f13 f14 s).2.2.2.2.2.2.2.2 Set.univ)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      iexact H22
    · iintro %_ ⟨H2, H3, H4, H5, H6, H7, H8, H9, H10, H11, H12, H13, H14, H15, H16, H17, H18, H19, H20, H21, H22⟩
      iapply (pack m c tr t I (firstScr m c t h1 h2 I f13 f14 s) _ _ hst.1 hst.2.1 hst.2.2)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [HR]; · iexact HR
      iexact HO
  have hprev : ∀ h0 : t.val ≠ 0, tr.R12 ⟨t.val - 1, Nat.lt_of_le_of_lt (Nat.sub_le _ _) t.isLt⟩ ((st0_12 t).view.read (Elt F) f14) :=
    fun h0 => finds12 m c tr t h1 _ (r14 ▸ hY14) h0
  by_cases h2 : k0_cond2 (grid0.coords t) = 1#1
  · skip

    have hst := tr.on_last t h1 h2 I f13 f14 s hS hprev
    iapply (wp_wand_r Idealize.ShloMosaic.frame (wpE (defs₀ (F := F)) Variants.none (c : Thread nD τ) none) Set.univ)
    isplitl [H2 H3 H4 H5 H6 H7 H8 H9 H10 H11 H12 H13 H14 H15 H16 H17 H18 H19 H20 H21 H22]
    · iapply ((lastOut m c t h1 h2 I f13 f14 s).2.2.2.2.2.2.2.2.2 Set.univ)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      iexact H22
    · iintro %_ ⟨H2, H3, H4, H5, H6, H7, H8, H9, H10, H11, H12, H13, H14, H15, H16, H17, H18, H19, H20, H21, H22⟩
      iapply (pack m c tr t I (lastScr m c t h1 h2 I f13 f14 s) _ _ hst.1 hst.2.1 hst.2.2)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [HR]; · iexact HR
      iexact HO
  · skip

    have hst := tr.on_middle t h1 h2 I f13 f14 s hS hprev
    iapply (wp_wand_r Idealize.ShloMosaic.frame (wpE (defs₀ (F := F)) Variants.none (c : Thread nD τ) none) Set.univ)
    isplitl [H2 H3 H4 H5 H6 H7 H8 H9 H10 H11 H12 H13 H14 H15 H16 H17 H18 H19 H20 H21 H22]
    · iapply ((middleOut m c t h1 h2 I f13 f14 s).2.2.2.2.2.2 Set.univ)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      iexact H22
    · iintro %_ ⟨H2, H3, H4, H5, H6, H7, H8, H9, H10, H11, H12, H13, H14, H15, H16, H17, H18, H19, H20, H21, H22⟩
      iapply (pack m c tr t I (middleScr m c t h1 h2 I f13 f14 s) _ _ hst.1 hst.2.1 hst.2.2)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [HR]; · iexact HR
      iexact HO

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation : BodyObligationRel (dat m c tr) (defs₀ (F := F)) Variants.none () Set.univ marked (kept m tr) := fun t => by
  rw [bigSep_W0, bigSep_W0, defs₀_row]
  exact triple_restated (sound_body m c tr t) rfl .rfl fun _ => .rfl

/-- The run: every execution ends, the counters at zero, the arrays as the tracked predicates say. -/
theorem run_main (tr : (c : Dev nD) → Track m c) :
    θ_run defs (onTc (τ := τ) (main (F := F))) (s₀ m ρ)
      (fun r => Pipeline.RDat.FramePost (cfgs 0) (fun c => (dat m c (tr c)).toRRel marked (kept m (tr c))) (V m) r ∧ r.2.sem = fun _ => 0) :=
  RDat.θ_run_frame_track (Q' := _) cfgs (0 : Fin 1) launch0 defs₀ Variants.none (fun c => (dat m c (tr c)).toRRel marked (kept m (tr c))) m ρ main
    (hbody := fun c => (body_obligation m c (tr c)).toRRel) (hshare := fun c => (dat m c (tr c)).share_full fun _ => rfl)
    (howed := fun _ _ => rfl) (V := V m) (hmain := hmain m Variants.none) (hA := fun c => dat_A m c (tr c))
    (hin := fun c => by
      show _ ⊢ iprop(∃ s : Scr (F := F), ⌜(tr c).S 0 s⌝ ∗ At c (Memref.whole cc0_scratch0) s.f15 ∗ At c (Memref.whole cc0_scratch1) s.f16 ∗ At c (Memref.whole cc0_scratch2) s.f17 ∗ At c (Memref.whole cc0_scratch3) s.f18 ∗ At c (Memref.whole cc0_scratch4) s.f19 ∗ At c (Memref.whole cc0_scratch5) s.f20 ∗ At c (Memref.whole cc0_scratch6) s.f21 ∗ At c (Memref.whole cc0_scratch7) s.f22 ∗ ∃ r, prngReg c r)
      unfold Pipeline.ΦA; rw [show (cfgs (0 : Fin 1)).spec = spec0 from rfl, scopedRest0_eq]
      simp only [At, Memref.view_whole, View.set_whole]
      iintro ⟨⟨⟨%f15, H15⟩, ⟨%f16, H16⟩, ⟨%f17, H17⟩, ⟨%f18, H18⟩, ⟨%f19, H19⟩, ⟨%f20, H20⟩, ⟨%f21, H21⟩, ⟨%f22, H22⟩⟩, HR⟩
      iexists ⟨f15, f16, f17, f18, f19, f20, f21, f22⟩
      isplitr; · ipureintro; exact (tr c).start _
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      iexact HR)
    (hout := fun c => by
      show iprop(∃ s : Scr (F := F), ⌜(tr c).S _ s⌝ ∗ At c (Memref.whole cc0_scratch0) s.f15 ∗ At c (Memref.whole cc0_scratch1) s.f16 ∗ At c (Memref.whole cc0_scratch2) s.f17 ∗ At c (Memref.whole cc0_scratch3) s.f18 ∗ At c (Memref.whole cc0_scratch4) s.f19 ∗ At c (Memref.whole cc0_scratch5) s.f20 ∗ At c (Memref.whole cc0_scratch6) s.f21 ∗ At c (Memref.whole cc0_scratch7) s.f22 ∗ ∃ r, prngReg c r) ⊢ _
      unfold Pipeline.ΦA; rw [show (cfgs (0 : Fin 1)).spec = spec0 from rfl, scopedRest0_eq]
      simp only [At, Memref.view_whole, View.set_whole]
      iintro ⟨%s, -, H15, H16, H17, H18, H19, H20, H21, H22, HR⟩
      isplitr [HR]
      · skip
        isplitl [H15]; · iexists _; iexact H15
        isplitl [H16]; · iexists _; iexact H16
        isplitl [H17]; · iexists _; iexact H17
        isplitl [H18]; · iexists _; iexact H18
        isplitl [H19]; · iexists _; iexact H19
        isplitl [H20]; · iexists _; iexact H20
        isplitl [H21]; · iexists _; iexact H21
        iexists _; iexact H22
      iexact HR)

end Cert.KernelIdeal.Head

end
-- ==== Proof.Args.lean ====
/- What the region leaves of the arguments, and the run with nothing tracked. -/
module

public import proofs.«01_k».proof.Proof.Obligation

@[expose] public section

set_option maxRecDepth 16384

noncomputable section

namespace Cert.KernelIdeal.Head

open Cert.KernelIdeal Cert.KernelIdeal.Gen
open Idealize.ShloMosaic Idealize.ShloMosaic.Pipeline Idealize.ShloMosaic.TcCoe
open Idealize.SL Idealize.SL.Sem

variable {F : FTy → Type} [FloatOps F] [Named F]
variable (m : (ℓ : Loc nD τ sig) → Buf (Elt F) ℓ) (ρ : Dev nD → PrngReg)

/-- Nothing tracked. -/
def trackNone (c : Dev nD) : Track m c where
  S _ _ := True
  R11 _ _ := True
  R12 _ _ := True
  start _ := trivial
  on_first _ _ _ _ _ _ _ _ := ⟨trivial, trivial, trivial⟩
  on_middle _ _ _ _ _ _ _ _ _ := ⟨trivial, trivial, trivial⟩
  on_last _ _ _ _ _ _ _ _ _ := ⟨trivial, trivial, trivial⟩

/-- After the run every argument array is as it was at launch. -/
theorem args_kept {m : (ℓ : Loc nD τ sig) → Buf (Elt F) ℓ} (tr : (c : Dev nD) → Track m c) {r : PUnit × MemSt nD τ sig (Elt F)}
    (h : Pipeline.RDat.FramePost (cfgs 0) (fun c => (dat m c (tr c)).toRRel marked (kept m (tr c))) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  ⟨(h.arr_in c 0 rfl).trans ((dat_A m c (tr c) 0).trans (V_main_arg0 m c)),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c)⟩

end Cert.KernelIdeal.Head

end
-- ==== Proof.RefRun.lean ====
/- The reference's run. -/
module

public import proofs.«01_k».proof.Proof.Gen.ReferenceIdeal.Run
public import proofs.«01_k».proof.Proof.Gen.ReferenceIdeal.Read
-- ==== Proof.Block.lean ====
/- One block of a batch: what the body computes of it for each head, as numbers. -/
module

public import proofs.«01_k».proof.Proof.Gen.KernelIdeal.Skeleton
public import Idealize.ShloMosaic.Lib.Pointwise
public import Idealize.ShloMosaic.Lib.Pipeline.ValueKit

@[expose] public section

set_option maxRecDepth 16384

noncomputable section

namespace Cert.KernelIdeal.Head

open Cert.KernelIdeal Cert.KernelIdeal.Gen
open Idealize.ShloMosaic Idealize.ShloMosaic.TcCoe Idealize.SL.Sem

/-- Column `d` of head `h`. -/
def hd (h : Fin 8) (d : Fin 128) : Fin 1024 := ⟨128 * h.val + d.val, by omega⟩

/-- Position `r` of block `j`. -/
def at8 (j : Fin 8) (r : Fin 1024) : Fin 8192 := ⟨1024 * j.val + r.val, by omega⟩

section Numbers
variable (qv : Fin 64 → Fin 1024 → EReal) (kb : Fin 1024 → Fin 1024 → EReal) (mv : Fin 1024 → EReal) (h : Fin 8) (q : Fin 64)

/-- A masked score. -/
def bSh (r : Fin 1024) : EReal := (∑ d : Fin 128, qv q (hd h d) * kb r (hd h d)) - mv r * ⊤
/-- The block's largest score. -/
def bM : EReal := (Finset.univ : Finset (Fin 1024)).fold max ⊥ (fun r => bSh qv kb mv h q r)
/-- The exponential of a score, from the block's largest. -/
def bP (r : Fin 1024) : EReal := Ideal.exp (bSh qv kb mv h q r - bM qv kb mv h q)
/-- The sum of the block's exponentials. -/
def bL : EReal := ∑ r : Fin 1024, bP qv kb mv h q r
end Numbers

theorem neg_inf : Ideal.ofBits .f32 0xFF800000#32 = (⊥ : EReal) := by simp [Ideal.ofBits, Ideal.ieee]

section Vectors
variable (qh : FVec Ideal S64x128 .bf16) (kh : FVec Ideal S1024x128 .bf16) (mk : FVec Ideal S1x1x1024 .f32)

def shV : FVec Ideal S64x1024 .f32 :=
  subf (matmul dot_S64x128_S1024x128_S64x1024_1_1_0_0_n_n none qh kh (constant S64x1024 .f32 0x00000000#32))
    (broadcastTo S64x1024 (mulf (k0_pay55 (F := Ideal) mk) (broadcast S1x1024 (Named.named κ "mask" 0x7149F2CA#32))) broadcasts_S1x1024_S64x1024)
def mV : FVec Ideal S64x1 .f32 :=
  shapeCast S64x1 (multiReduction .maximumf [1] S64 (shV qh kh mk) 0xFF800000#32 reduces_S64x1024_S64 (.inl rfl) rfl) shapeCasts_S64_S64x1
def pV : FVec Ideal S64x1024 .f32 := exp (subf (shV qh kh mk) (broadcastTo S64x1024 (mV qh kh mk) broadcasts_S64x1_S64x1024))
def lV : FVec Ideal S64x1 .f32 :=
  shapeCast S64x1 (multiReduction .add [1] S64 (pV qh kh mk) 0x00000000#32 reduces_S64x1024_S64 (.inl rfl) rfl) shapeCasts_S64_S64x1

variable {qh kh mk} {qv : Fin 64 → Fin 1024 → EReal} {kb : Fin 1024 → Fin 1024 → EReal} {mv : Fin 1024 → EReal} {h : Fin 8}
  (hq : ∀ (q : Fin 64) (d : Fin 128), qh (ix2 q d) = qv q (hd h d)) (hk : ∀ (r : Fin 1024) (d : Fin 128), kh (ix2 r d) = kb r (hd h d))
  (hm : ∀ r : Fin 1024, mk (ix3 0 0 r) = mv r)
include hq hk hm

theorem shV_apply (q : Fin 64) (r : Fin 1024) : shV qh kh mk (ix2 q r) = bSh qv kb mv h q r := by
  pointwise [shV, k0_pay55, hq, hk, hm]
  rfl
theorem mV_apply (q : Fin 64) : mV qh kh mk (ix2 q 0) = bM qv kb mv h q := by
  pointwise [mV, shV_apply hq hk hm]
  rw [neg_inf]
  rfl
theorem pV_apply (q : Fin 64) (r : Fin 1024) : pV qh kh mk (ix2 q r) = bP qv kb mv h q r := by
  pointwise [pV, shV_apply hq hk hm, mV_apply hq hk hm]
  rfl
theorem lV_apply (q : Fin 64) : lV qh kh mk (ix2 q 0) = bL qv kb mv h q := by
  pointwise [lV, pV_apply hq hk hm]
  rfl

theorem pPiece_apply (z : Fin 1) (q : Fin 64) (r : Fin 1024) :
    shapeCast S1x64x1024 (truncf .bf16 (pV qh kh mk) bitsLt_bf16_f32) shapeCasts_S64x1024_S1x64x1024 (ix3 z q r) = bP qv kb mv h q r := by
  pointwise [pV_apply hq hk hm]
theorem mPiece_apply (z : Fin 1) (q : Fin 64) (u : Fin 1) : shapeCast S1x64x1 (mV qh kh mk) shapeCasts_S64x1_S1x64x1 (ix3 z q u) = bM qv kb mv h q := by
  pointwise [mV_apply hq hk hm]
theorem lPiece_apply (z : Fin 1) (q : Fin 64) (u : Fin 1) : shapeCast S1x64x1 (lV qh kh mk) shapeCasts_S64x1_S1x64x1 (ix3 z q u) = bL qv kb mv h q := by
  pointwise [lV_apply hq hk hm]
end Vectors

section KV
variable {xv : FVec Ideal S1x1024x1024 .f32} {wv : FVec Ideal S1024x2048 .bf16} {bv : FVec Ideal S1x2048 .f32}
  {xb : Fin 1024 → Fin 1024 → EReal} {w : Fin 1024 → Fin 2048 → EReal} {b : Fin 2048 → EReal}
  (hx : ∀ r k : Fin 1024, xv (ix3 0 r k) = xb r k) (hw : ∀ (k : Fin 1024) (e : Fin 2048), wv (ix2 k e) = w k e) (hb : ∀ e : Fin 2048, bv (ix2 0 e) = b e)
include hx hw hb

theorem keys_apply (r e : Fin 1024) : k0_pay53 (F := Ideal) (k0_pay51 (F := Ideal) xv) wv bv (ix2 r e)
    = (∑ k : Fin 1024, xb r k * w k ⟨e.val, by omega⟩) + b ⟨e.val, by omega⟩ := by
  pointwise [k0_pay53, k0_pay52, k0_pay51, hx, hw, hb]
theorem values_apply (r e : Fin 1024) : k0_pay54 (F := Ideal) (k0_pay51 (F := Ideal) xv) wv bv (ix2 r e)
    = (∑ k : Fin 1024, xb r k * w k ⟨1024 + e.val, by omega⟩) + b ⟨1024 + e.val, by omega⟩ := by
  pointwise [k0_pay54, k0_pay52, k0_pay51, hx, hw, hb]
end KV

section Q
variable {qi : FVec Ideal S64x1024 .bf16} {wq : FVec Ideal S1024x1024 .bf16} {bq : FVec Ideal S1x1024 .f32}
  {a : Fin 64 → Fin 1024 → EReal} {w : Fin 1024 → Fin 1024 → EReal} {b : Fin 1024 → EReal}
  (ha : ∀ (q : Fin 64) (k : Fin 1024), qi (ix2 q k) = a q k) (hw : ∀ k e : Fin 1024, wq (ix2 k e) = w k e) (hb : ∀ e : Fin 1024, bq (ix2 0 e) = b e)
include ha hw hb
theorem queries_apply (q : Fin 64) (e : Fin 1024) : k0_pay49 (F := Ideal) qi wq bq (ix2 q e)
    = ((∑ k : Fin 1024, a q k * w k e) + b e) * Ideal.ofBits .f32 0x3DB504F3#32 := by
  pointwise [k0_pay49, ha, hw, hb]
end Q

end Cert.KernelIdeal.Head

end
-- ==== Proof.Pieces.lean ====
/- The stores of one block, read back: each head's exponentials, largest score and sum, and the block's values. -/
module

public import proofs.«01_k».proof.Proof.Block
public import proofs.«01_k».proof.Proof.Gen.KernelIdeal
public import Idealize.ShloMosaic.Lib.VecWindow

@[expose] public section

set_option maxRecDepth 16384

noncomputable section

namespace Cert.KernelIdeal.Head

open Cert.KernelIdeal Cert.KernelIdeal.Gen
open Idealize.ShloMosaic Idealize.ShloMosaic.TcCoe Idealize.SL.Sem

/-- The eight stores of exponentials, the last first. -/
def sPieces (i : grid0.Coords) (P : Fin 8 → FVec Ideal S1x64x1024 .bf16) : List (View.Piece (Elt Ideal) S8x64x8192 .bf16) :=
  [⟨Rect.unit (k0_off10 i) S1x64x1024.size (k0_off10_inb i), P 7⟩,
   ⟨Rect.unit (k0_off9 i) S1x64x1024.size (k0_off9_inb i), P 6⟩,
   ⟨Rect.unit (k0_off8 i) S1x64x1024.size (k0_off8_inb i), P 5⟩,
   ⟨Rect.unit (k0_off7 i) S1x64x1024.size (k0_off7_inb i), P 4⟩,
   ⟨Rect.unit (k0_off6 i) S1x64x1024.size (k0_off6_inb i), P 3⟩,
   ⟨Rect.unit (k0_off5 i) S1x64x1024.size (k0_off5_inb i), P 2⟩,
   ⟨Rect.unit (k0_off4 i) S1x64x1024.size (k0_off4_inb i), P 1⟩,
   ⟨Rect.unit (k0_off2 i) S1x64x1024.size (k0_off2_inb i), P 0⟩]

/-- The eight stores of a number per query, the last first. -/
def rPieces (i : grid0.Coords) (P : Fin 8 → FVec Ideal S1x64x1 .f32) : List (View.Piece (Elt Ideal) S64x64x1 .f32) :=
  [⟨Rect.unit (k0_off3 i 56#32) S1x64x1.size (k0_off3_inb i 7), P 7⟩,
   ⟨Rect.unit (k0_off3 i 48#32) S1x64x1.size (k0_off3_inb i 6), P 6⟩,
   ⟨Rect.unit (k0_off3 i 40#32) S1x64x1.size (k0_off3_inb i 5), P 5⟩,
   ⟨Rect.unit (k0_off3 i 32#32) S1x64x1.size (k0_off3_inb i 4), P 4⟩,
   ⟨Rect.unit (k0_off3 i 24#32) S1x64x1.size (k0_off3_inb i 3), P 3⟩,
   ⟨Rect.unit (k0_off3 i 16#32) S1x64x1.size (k0_off3_inb i 2), P 2⟩,
   ⟨Rect.unit (k0_off3 i 8#32) S1x64x1.size (k0_off3_inb i 1), P 1⟩,
   ⟨Rect.unit (k0_off3 i 0#32) S1x64x1.size (k0_off3_inb i 0), P 0⟩]

/-- The store of the block's values. -/
def vPieces (i : grid0.Coords) (P : FVec Ideal S1024x1024 .bf16) : List (View.Piece (Elt Ideal) S8192x1024 .bf16) :=
  [⟨Rect.unit (k0_off1 i) S1024x1024.size (k0_off1_inb i), P⟩]

theorem emb_s {off : Fin 3 → ℕ} {inb} {h j : ℕ} (ho : off = ![h, 0, 1024 * j]) (hh : h < 8) (hj : j < 8) (z : Fin 1) (q : Fin 64) (r : Fin 1024) :
    (Rect.unit (s := S8x64x8192) off S1x64x1024.size inb).emb (ix3 z q r) = ix3 ⟨h, hh⟩ q (at8 ⟨j, hj⟩ r) := by
  subst ho; funext a; apply Fin.ext
  have := z.isLt
  match a with
  | ⟨0, _⟩ => show h + 1 * z.val = h; omega
  | ⟨1, _⟩ => show 0 + 1 * q.val = q.val; omega
  | ⟨2, _⟩ => show 1024 * j + 1 * r.val = 1024 * j + r.val; omega

theorem mem_s {off : Fin 3 → ℕ} {inb} {h j : ℕ} (ho : off = ![h, 0, 1024 * j]) (h' j' : Fin 8) (q : Fin 64) (r : Fin 1024) :
    (ix3 h' q (at8 j' r) : S8x64x8192.Idx) ∈ (Rect.unit (s := S8x64x8192) off S1x64x1024.size inb).set ↔ h'.val = h ∧ j'.val = j := by
  subst ho
  rw [Rect.mem_set_unit]
  constructor
  · intro H
    have h0 : h ≤ h'.val ∧ h'.val < h + 1 := H 0
    have h2 : 1024 * j ≤ 1024 * j'.val + r.val ∧ 1024 * j'.val + r.val < 1024 * j + 1024 := H 2
    omega
  · rintro ⟨h0, h2⟩ a
    match a with
    | ⟨0, _⟩ => show h ≤ h'.val ∧ h'.val < h + 1; omega
    | ⟨1, _⟩ => show 0 ≤ q.val ∧ q.val < 0 + 64; omega
    | ⟨2, _⟩ => show 1024 * j ≤ 1024 * j'.val + r.val ∧ 1024 * j'.val + r.val < 1024 * j + 1024; omega

theorem emb_r {off : Fin 3 → ℕ} {inb} {n : ℕ} (ho : off = ![n, 0, 0]) (hn : n < 64) (z : Fin 1) (q : Fin 64) (u : Fin 1) :
    (Rect.unit (s := S64x64x1) off S1x64x1.size inb).emb (ix3 z q u) = ix3 ⟨n, hn⟩ q 0 := by
  subst ho; funext a; apply Fin.ext
  have := z.isLt; have := u.isLt
  match a with
  | ⟨0, _⟩ => show n + 1 * z.val = n; omega
  | ⟨1, _⟩ => show 0 + 1 * q.val = q.val; omega
  | ⟨2, _⟩ => show 0 + 1 * u.val = 0; omega

theorem mem_r {off : Fin 3 → ℕ} {inb} {n : ℕ} (ho : off = ![n, 0, 0]) (n' : Fin 64) (q : Fin 64) :
    (ix3 n' q 0 : S64x64x1.Idx) ∈ (Rect.unit (s := S64x64x1) off S1x64x1.size inb).set ↔ n'.val = n := by
  subst ho
  rw [Rect.mem_set_unit]
  constructor
  · intro H
    have h0 : n ≤ n'.val ∧ n'.val < n + 1 := H 0
    omega
  · rintro h0 a
    match a with
    | ⟨0, _⟩ => show n ≤ n'.val ∧ n'.val < n + 1; omega
    | ⟨1, _⟩ => show 0 ≤ q.val ∧ q.val < 0 + 64; omega
    | ⟨2, _⟩ => show 0 ≤ 0 ∧ 0 < 0 + 1; omega

/-- The row of head `h` and block `j`. -/
def row8 (h j : Fin 8) : Fin 64 := ⟨8 * h.val + j.val, by omega⟩

section Read
variable {sig' : RefSig} {κ' : Kind} {sp : Space} (i : grid0.Coords) (j : Fin 8) (hj : (i 1).val = j.val)
include hj

theorem s_new (v : View sig' κ' sp S8x64x8192 .bf16) (f : v.ty.Contents (Elt Ideal)) {P : Fin 8 → FVec Ideal S1x64x1024 .bf16} {G : Fin 8 → Fin 64 → Fin 1024 → EReal}
    (hP : ∀ h z q r, P h (ix3 z q r) = G h q r) (h : Fin 8) (q : Fin 64) (r : Fin 1024) :
    v.read (Elt Ideal) (v.writes (Elt Ideal) f (sPieces i P)) (ix3 h q (at8 j r)) = G h q r := by
  have key : ∀ (off : Fin 3 → ℕ) (inb) (h : Fin 8), off = ![h.val, 0, 1024 * j.val] → ∀ x : (Rect.unit (s := S8x64x8192) off S1x64x1024.size inb).shape.Idx,
      P h x = (fun y : S8x64x8192.Idx => G (y 0) (y 1) ⟨(y 2).val % 1024, Nat.mod_lt _ (by decide)⟩) ((Rect.unit (s := S8x64x8192) off S1x64x1024.size inb).emb x) := by
    intro off inb h ho x
    obtain ⟨z, q, r, rfl⟩ : ∃ (z : Fin 1) (q : Fin 64) (r : Fin 1024), x = ix3 z q r := ⟨x 0, x 1, x 2, eq_ix3 x⟩
    rw [emb_s ho h.isLt j.isLt]
    refine (hP h z q r).trans (congrArg (G h q) (Fin.ext ?_))
    show r.val = (1024 * j.val + r.val) % 1024
    omega
  have e := View.read_writes_apply_of_pieces v f (fun y : S8x64x8192.Idx => (G (y 0) (y 1) ⟨(y 2).val % 1024, Nat.mod_lt _ (by decide)⟩ : Elt Ideal .bf16)) (sPieces i P) ?_ (ix3 h q (at8 j r)) ?_
  · refine e.trans (congrArg (G h q) (Fin.ext ?_))
    show (1024 * j.val + r.val) % 1024 = r.val
    omega
  · intro p hp
    simp only [sPieces, List.mem_cons, List.not_mem_nil, or_false] at hp
    rcases hp with rfl | rfl | rfl | rfl | rfl | rfl | rfl | rfl
    · exact key _ (k0_off10_inb i) 7 (by rw [k0_off10_eq, hj]; rfl)
    · exact key _ (k0_off9_inb i) 6 (by rw [k0_off9_eq, hj]; rfl)
    · exact key _ (k0_off8_inb i) 5 (by rw [k0_off8_eq, hj]; rfl)
    · exact key _ (k0_off7_inb i) 4 (by rw [k0_off7_eq, hj]; rfl)
    · exact key _ (k0_off6_inb i) 3 (by rw [k0_off6_eq, hj]; rfl)
    · exact key _ (k0_off5_inb i) 2 (by rw [k0_off5_eq, hj]; rfl)
    · exact key _ (k0_off4_inb i) 1 (by rw [k0_off4_eq, hj]; rfl)
    · exact key _ (k0_off2_inb i) 0 (by rw [k0_off2_eq, hj]; rfl)
  · have at' : ∀ n : Fin 8, h = n → ∀ (off : Fin 3 → ℕ) (inb), off = ![n.val, 0, 1024 * (i 1).val] → (ix3 h q (at8 j r) : S8x64x8192.Idx) ∈ (Rect.unit (s := S8x64x8192) off S1x64x1024.size inb).set :=
      fun n hn off inb ho => (mem_s ho h j q r).mpr ⟨congrArg Fin.val hn, hj.symm⟩
    match h with
    | ⟨7, _⟩ => exact ⟨_, List.mem_cons_self, at' 7 rfl _ (k0_off10_inb i) (k0_off10_eq i)⟩
    | ⟨6, _⟩ => exact ⟨_, .tail _ List.mem_cons_self, at' 6 rfl _ (k0_off9_inb i) (k0_off9_eq i)⟩
    | ⟨5, _⟩ => exact ⟨_, .tail _ (.tail _ List.mem_cons_self), at' 5 rfl _ (k0_off8_inb i) (k0_off8_eq i)⟩
    | ⟨4, _⟩ => exact ⟨_, .tail _ (.tail _ (.tail _ List.mem_cons_self)), at' 4 rfl _ (k0_off7_inb i) (k0_off7_eq i)⟩
    | ⟨3, _⟩ => exact ⟨_, .tail _ (.tail _ (.tail _ (.tail _ List.mem_cons_self))), at' 3 rfl _ (k0_off6_inb i) (k0_off6_eq i)⟩
    | ⟨2, _⟩ => exact ⟨_, .tail _ (.tail _ (.tail _ (.tail _ (.tail _ List.mem_cons_self)))), at' 2 rfl _ (k0_off5_inb i) (k0_off5_eq i)⟩
    | ⟨1, _⟩ => exact ⟨_, .tail _ (.tail _ (.tail _ (.tail _ (.tail _ (.tail _ List.mem_cons_self))))), at' 1 rfl _ (k0_off4_inb i) (k0_off4_eq i)⟩
    | ⟨0, _⟩ => exact ⟨_, .tail _ (.tail _ (.tail _ (.tail _ (.tail _ (.tail _ (.tail _ List.mem_cons_self)))))), at' 0 rfl _ (k0_off2_inb i) (k0_off2_eq i)⟩

theorem s_old (v : View sig' κ' sp S8x64x8192 .bf16) (f : v.ty.Contents (Elt Ideal)) (P : Fin 8 → FVec Ideal S1x64x1024 .bf16)
    (h j' : Fin 8) (hne : j'.val ≠ j.val) (q : Fin 64) (r : Fin 1024) :
    v.read (Elt Ideal) (v.writes (Elt Ideal) f (sPieces i P)) (ix3 h q (at8 j' r)) = v.read (Elt Ideal) f (ix3 h q (at8 j' r)) := by
  apply View.read_writes_apply_of_forall_not_mem
  intro p hp
  simp only [sPieces, List.mem_cons, List.not_mem_nil, or_false] at hp
  rcases hp with rfl | rfl | rfl | rfl | rfl | rfl | rfl | rfl
  · exact fun hm => hne (((mem_s (inb := k0_off10_inb i) (k0_off10_eq i) h j' q r).mp hm).2.trans hj)
  · exact fun hm => hne (((mem_s (inb := k0_off9_inb i) (k0_off9_eq i) h j' q r).mp hm).2.trans hj)
  · exact fun hm => hne (((mem_s (inb := k0_off8_inb i) (k0_off8_eq i) h j' q r).mp hm).2.trans hj)
  · exact fun hm => hne (((mem_s (inb := k0_off7_inb i) (k0_off7_eq i) h j' q r).mp hm).2.trans hj)
  · exact fun hm => hne (((mem_s (inb := k0_off6_inb i) (k0_off6_eq i) h j' q r).mp hm).2.trans hj)
  · exact fun hm => hne (((mem_s (inb := k0_off5_inb i) (k0_off5_eq i) h j' q r).mp hm).2.trans hj)
  · exact fun hm => hne (((mem_s (inb := k0_off4_inb i) (k0_off4_eq i) h j' q r).mp hm).2.trans hj)
  · exact fun hm => hne (((mem_s (inb := k0_off2_inb i) (k0_off2_eq i) h j' q r).mp hm).2.trans hj)

theorem r_new (v : View sig' κ' sp S64x64x1 .f32) (f : v.ty.Contents (Elt Ideal)) {P : Fin 8 → FVec Ideal S1x64x1 .f32} {G : Fin 8 → Fin 64 → EReal}
    (hP : ∀ h z q u, P h (ix3 z q u) = G h q) (h : Fin 8) (q : Fin 64) :
    v.read (Elt Ideal) (v.writes (Elt Ideal) f (rPieces i P)) (ix3 (row8 h j) q 0) = G h q := by
  have key : ∀ (off : Fin 3 → ℕ) (inb) (h : Fin 8), off = ![8 * h.val + (i 1).val, 0, 0] → ∀ x : (Rect.unit (s := S64x64x1) off S1x64x1.size inb).shape.Idx,
      P h x = (fun y : S64x64x1.Idx => G ⟨(y 0).val / 8, Nat.div_lt_of_lt_mul (y 0).isLt⟩ (y 1)) ((Rect.unit (s := S64x64x1) off S1x64x1.size inb).emb x) := by
    intro off inb h ho x
    obtain ⟨z, q, u, rfl⟩ : ∃ (z : Fin 1) (q : Fin 64) (u : Fin 1), x = ix3 z q u := ⟨x 0, x 1, x 2, eq_ix3 x⟩
    rw [emb_r ho (by omega)]
    refine (hP h z q u).trans (congrArg (fun h => G h q) (Fin.ext ?_))
    show h.val = (8 * h.val + (i 1).val) / 8
    omega
  have e := View.read_writes_apply_of_pieces v f (fun y : S64x64x1.Idx => (G ⟨(y 0).val / 8, Nat.div_lt_of_lt_mul (y 0).isLt⟩ (y 1) : Elt Ideal .f32)) (rPieces i P) ?_ (ix3 (row8 h j) q 0) ?_
  · refine e.trans (congrArg (fun h => G h q) (Fin.ext ?_))
    show (8 * h.val + j.val) / 8 = h.val
    omega
  · intro p hp
    simp only [rPieces, List.mem_cons, List.not_mem_nil, or_false] at hp
    rcases hp with rfl | rfl | rfl | rfl | rfl | rfl | rfl | rfl
    · exact key _ (k0_off3_inb i 7) 7 (k0_off3_eq i 7)
    · exact key _ (k0_off3_inb i 6) 6 (k0_off3_eq i 6)
    · exact key _ (k0_off3_inb i 5) 5 (k0_off3_eq i 5)
    · exact key _ (k0_off3_inb i 4) 4 (k0_off3_eq i 4)
    · exact key _ (k0_off3_inb i 3) 3 (k0_off3_eq i 3)
    · exact key _ (k0_off3_inb i 2) 2 (k0_off3_eq i 2)
    · exact key _ (k0_off3_inb i 1) 1 (k0_off3_eq i 1)
    · exact key _ (k0_off3_inb i 0) 0 (k0_off3_eq i 0)
  · have at' : ∀ n : Fin 8, h = n → ∀ (off : Fin 3 → ℕ) (inb), off = ![8 * n.val + (i 1).val, 0, 0] → (ix3 (row8 h j) q 0 : S64x64x1.Idx) ∈ (Rect.unit (s := S64x64x1) off S1x64x1.size inb).set :=
      fun n hn off inb ho => (mem_r ho _ q).mpr (by subst hn; show 8 * h.val + j.val = _; omega)
    match h with
    | ⟨7, _⟩ => exact ⟨_, List.mem_cons_self, at' 7 rfl _ (k0_off3_inb i 7) (k0_off3_eq i 7)⟩
    | ⟨6, _⟩ => exact ⟨_, .tail _ List.mem_cons_self, at' 6 rfl _ (k0_off3_inb i 6) (k0_off3_eq i 6)⟩
    | ⟨5, _⟩ => exact ⟨_, .tail _ (.tail _ List.mem_cons_self), at' 5 rfl _ (k0_off3_inb i 5) (k0_off3_eq i 5)⟩
    | ⟨4, _⟩ => exact ⟨_, .tail _ (.tail _ (.tail _ List.mem_cons_self)), at' 4 rfl _ (k0_off3_inb i 4) (k0_off3_eq i 4)⟩
    | ⟨3, _⟩ => exact ⟨_, .tail _ (.tail _ (.tail _ (.tail _ List.mem_cons_self))), at' 3 rfl _ (k0_off3_inb i 3) (k0_off3_eq i 3)⟩
    | ⟨2, _⟩ => exact ⟨_, .tail _ (.tail _ (.tail _ (.tail _ (.tail _ List.mem_cons_self)))), at' 2 rfl _ (k0_off3_inb i 2) (k0_off3_eq i 2)⟩
    | ⟨1, _⟩ => exact ⟨_, .tail _ (.tail _ (.tail _ (.tail _ (.tail _ (.tail _ List.mem_cons_self))))), at' 1 rfl _ (k0_off3_inb i 1) (k0_off3_eq i 1)⟩
    | ⟨0, _⟩ => exact ⟨_, .tail _ (.tail _ (.tail _ (.tail _ (.tail _ (.tail _ (.tail _ List.mem_cons_self)))))), at' 0 rfl _ (k0_off3_inb i 0) (k0_off3_eq i 0)⟩

theorem r_old (v : View sig' κ' sp S64x64x1 .f32) (f : v.ty.Contents (Elt Ideal)) (P : Fin 8 → FVec Ideal S1x64x1 .f32)
    (h j' : Fin 8) (hne : j'.val ≠ j.val) (q : Fin 64) :
    v.read (Elt Ideal) (v.writes (Elt Ideal) f (rPieces i P)) (ix3 (row8 h j') q 0) = v.read (Elt Ideal) f (ix3 (row8 h j') q 0) := by
  apply View.read_writes_apply_of_forall_not_mem
  have key : ∀ (n : Fin 8) (off : Fin 3 → ℕ) (inb), off = ![8 * n.val + (i 1).val, 0, 0] → (ix3 (row8 h j') q 0 : S64x64x1.Idx) ∉ (Rect.unit (s := S64x64x1) off S1x64x1.size inb).set :=
    fun n off inb ho hm => by
      have : 8 * h.val + j'.val = 8 * n.val + (i 1).val := (mem_r ho _ q).mp hm
      omega
  intro p hp
  simp only [rPieces, List.mem_cons, List.not_mem_nil, or_false] at hp
  rcases hp with rfl | rfl | rfl | rfl | rfl | rfl | rfl | rfl
  · exact key 7 _ (k0_off3_inb i 7) (k0_off3_eq i 7)
  · exact key 6 _ (k0_off3_inb i 6) (k0_off3_eq i 6)
  · exact key 5 _ (k0_off3_inb i 5) (k0_off3_eq i 5)
  · exact key 4 _ (k0_off3_inb i 4) (k0_off3_eq i 4)
  · exact key 3 _ (k0_off3_inb i 3) (k0_off3_eq i 3)
  · exact key 2 _ (k0_off3_inb i 2) (k0_off3_eq i 2)
  · exact key 1 _ (k0_off3_inb i 1) (k0_off3_eq i 1)
  · exact key 0 _ (k0_off3_inb i 0) (k0_off3_eq i 0)

theorem v_new (v : View sig' κ' sp S8192x1024 .bf16) (f : v.ty.Contents (Elt Ideal)) (P : FVec Ideal S1024x1024 .bf16) (r e : Fin 1024) :
    v.read (Elt Ideal) (v.writes (Elt Ideal) f (vPieces i P)) (ix2 (at8 j r) e) = P (ix2 r e) := by
  have he : (Rect.unit (s := S8192x1024) (k0_off1 i) S1024x1024.size (k0_off1_inb i)).emb (ix2 r e) = ix2 (at8 j r) e := by
    funext a; apply Fin.ext
    match a with
    | ⟨0, _⟩ => show (k0_off1 i) 0 + 1 * r.val = 1024 * j.val + r.val; rw [k0_off1_eq]; show 1024 * (i 1).val + 1 * r.val = _; omega
    | ⟨1, _⟩ => show (k0_off1 i) 1 + 1 * e.val = e.val; rw [k0_off1_eq]; show 0 + 1 * e.val = _; omega
  rw [← he]
  exact View.read_writes_cons_emb v f (Rect.unit (s := S8192x1024) (k0_off1 i) S1024x1024.size (k0_off1_inb i)) P [] (ix2 r e)

theorem v_old (v : View sig' κ' sp S8192x1024 .bf16) (f : v.ty.Contents (Elt Ideal)) (P : FVec Ideal S1024x1024 .bf16) (j' : Fin 8) (hne : j'.val ≠ j.val) (r e : Fin 1024) :
    v.read (Elt Ideal) (v.writes (Elt Ideal) f (vPieces i P)) (ix2 (at8 j' r) e) = v.read (Elt Ideal) f (ix2 (at8 j' r) e) := by
  apply View.read_writes_apply_of_forall_not_mem
  intro p hp
  simp only [vPieces, List.mem_cons, List.not_mem_nil, or_false] at hp
  subst hp
  intro hm
  have H := (Rect.mem_set_unit (inb := k0_off1_inb i)).mp hm 0
  rw [k0_off1_eq] at H
  have H' : 1024 * (i 1).val ≤ 1024 * j'.val + r.val ∧ 1024 * j'.val + r.val < 1024 * (i 1).val + 1024 := H
  omega
end Read

theorem sPieces_congr {sig' : RefSig} {κ' : Kind} {sp : Space} (i : grid0.Coords) (v : View sig' κ' sp S8x64x8192 .bf16) (f : v.ty.Contents (Elt Ideal)) (P : Fin 8 → FVec Ideal S1x64x1024 .bf16) (a0 a1 a2 a3 a4 a5 a6 a7 : FVec Ideal S1x64x1024 .bf16)
    (e0 : a0 = P 0) (e1 : a1 = P 1) (e2 : a2 = P 2) (e3 : a3 = P 3) (e4 : a4 = P 4) (e5 : a5 = P 5) (e6 : a6 = P 6) (e7 : a7 = P 7) :
    v.writes (Elt Ideal) f [⟨Rect.unit (k0_off10 i) S1x64x1024.size (k0_off10_inb i), a7⟩,
   ⟨Rect.unit (k0_off9 i) S1x64x1024.size (k0_off9_inb i), a6⟩,
   ⟨Rect.unit (k0_off8 i) S1x64x1024.size (k0_off8_inb i), a5⟩,
   ⟨Rect.unit (k0_off7 i) S1x64x1024.size (k0_off7_inb i), a4⟩,
   ⟨Rect.unit (k0_off6 i) S1x64x1024.size (k0_off6_inb i), a3⟩,
   ⟨Rect.unit (k0_off5 i) S1x64x1024.size (k0_off5_inb i), a2⟩,
   ⟨Rect.unit (k0_off4 i) S1x64x1024.size (k0_off4_inb i), a1⟩,
   ⟨Rect.unit (k0_off2 i) S1x64x1024.size (k0_off2_inb i), a0⟩] = v.writes (Elt Ideal) f (sPieces i P) := by
  subst e0 e1 e2 e3 e4 e5 e6 e7; rfl

theorem rPieces_congr {sig' : RefSig} {κ' : Kind} {sp : Space} (i : grid0.Coords) (v : View sig' κ' sp S64x64x1 .f32) (f : v.ty.Contents (Elt Ideal)) (P : Fin 8 → FVec Ideal S1x64x1 .f32) (a0 a1 a2 a3 a4 a5 a6 a7 : FVec Ideal S1x64x1 .f32)
    (e0 : a0 = P 0) (e1 : a1 = P 1) (e2 : a2 = P 2) (e3 : a3 = P 3) (e4 : a4 = P 4) (e5 : a5 = P 5) (e6 : a6 = P 6) (e7 : a7 = P 7) :
    v.writes (Elt Ideal) f [⟨Rect.unit (k0_off3 i 56#32) S1x64x1.size (k0_off3_inb i 7), a7⟩,
   ⟨Rect.unit (k0_off3 i 48#32) S1x64x1.size (k0_off3_inb i 6), a6⟩,
   ⟨Rect.unit (k0_off3 i 40#32) S1x64x1.size (k0_off3_inb i 5), a5⟩,
   ⟨Rect.unit (k0_off3 i 32#32) S1x64x1.size (k0_off3_inb i 4), a4⟩,
   ⟨Rect.unit (k0_off3 i 24#32) S1x64x1.size (k0_off3_inb i 3), a3⟩,
   ⟨Rect.unit (k0_off3 i 16#32) S1x64x1.size (k0_off3_inb i 2), a2⟩,
   ⟨Rect.unit (k0_off3 i 8#32) S1x64x1.size (k0_off3_inb i 1), a1⟩,
   ⟨Rect.unit (k0_off3 i 0#32) S1x64x1.size (k0_off3_inb i 0), a0⟩] = v.writes (Elt Ideal) f (rPieces i P) := by
  subst e0 e1 e2 e3 e4 e5 e6 e7; rfl

end Cert.KernelIdeal.Head

end
-- ==== Proof.Trip.lean ====
/- One trip of the last block's loop: what a head adds to the averaged attention and what it leaves in the concatenated heads. -/
module

public import proofs.«01_k».proof.Proof.Loop
public import proofs.«01_k».proof.Proof.Pieces
public import Idealize.ShloMosaic.Lib.IdealHost

@[expose] public section

set_option maxRecDepth 16384
set_option maxHeartbeats 1000000

noncomputable section

namespace Cert.KernelIdeal.Head

open Cert.KernelIdeal Cert.KernelIdeal.Gen
open Idealize.ShloMosaic Idealize.ShloMosaic.TcCoe Idealize.SL.Sem

section Vectors
variable (ms ls : Fin 8 → FVec Ideal S64x1 .f32) (ss : Fin 8 → FVec Ideal S64x1024 .bf16) (vs : Fin 8 → FVec Ideal S1024x128 .bf16) (os : Fin 8 → FVec Ideal S1x64x1024 .f32)

/-- The largest score of a query over the eight blocks. -/
def tM : FVec Ideal S64x1 .f32 := maximumf (maximumf (maximumf (maximumf (maximumf (maximumf (maximumf (ms 0) (ms 1)) (ms 2)) (ms 3)) (ms 4)) (ms 5)) (ms 6)) (ms 7)
/-- The factor that brings block `c` to the common largest score. -/
def tW (c : Fin 8) : FVec Ideal S64x1 .f32 := exp (subf (ms c) (tM ms))
/-- The sum of the exponentials over the eight blocks. -/
def tL : FVec Ideal S64x1 .f32 := addf (addf (addf (addf (addf (addf (addf (mulf (tW ms 0) (ls 0)) (mulf (tW ms 1) (ls 1))) (mulf (tW ms 2) (ls 2))) (mulf (tW ms 3) (ls 3))) (mulf (tW ms 4) (ls 4))) (mulf (tW ms 5) (ls 5))) (mulf (tW ms 6) (ls 6))) (mulf (tW ms 7) (ls 7))
def tI : FVec Ideal S64x1 .f32 := divf (broadcast S64x1 (Scalar.ofBits (F := Ideal) .f32 0x3F800000#32)) (tL ms ls)
/-- Block `c` of the attention. -/
def tA (c : Fin 8) : FVec Ideal S64x1024 .f32 := mulf (extf .f32 (ss c) bitsLt_bf16_f32) (broadcastTo S64x1024 (mulf (tW ms c) (tI ms ls)) broadcasts_S64x1_S64x1024)
/-- Block `c` of the averaged attention, this head added. -/
def tO (c : Fin 8) : FVec Ideal S1x64x1024 .f32 :=
  shapeCast S1x64x1024 (addf (shapeCast S64x1024 (os c) shapeCasts_S1x64x1024_S64x1024) (mulf (tA ms ls ss c) (broadcast S64x1024 (Scalar.ofBits (F := Ideal) .f32 0x3E000000#32)))) shapeCasts_S64x1024_S1x64x1024
def tB (c : Fin 8) : FVec Ideal S64x128 .f32 :=
  matmul dot_S64x1024_S1024x128_S64x128_1_0_0_1_n_n none (truncf .bf16 (tA ms ls ss c) bitsLt_bf16_f32) (vs c) (constant S64x128 .f32 0x00000000#32)
/-- The head's compressed values. -/
def tC : FVec Ideal S64x128 .f32 := shapeCast S64x128 (addf (addf (addf (addf (addf (addf (addf (addf (broadcast S64x128 (Scalar.ofBits (F := Ideal) .f32 0x00000000#32)) (tB ms ls ss vs 0)) (tB ms ls ss vs 1)) (tB ms ls ss vs 2)) (tB ms ls ss vs 3)) (tB ms ls ss vs 4)) (tB ms ls ss vs 5)) (tB ms ls ss vs 6)) (tB ms ls ss vs 7)) shapeCasts_S64x128_S64x128

end Vectors

section Scalars
variable (M L : Fin 8 → EReal) (A : Fin 8 → EReal)
def fM : EReal := (max ((max ((max ((max ((max ((max ((max (M 0) (M 1))) (M 2))) (M 3))) (M 4))) (M 5))) (M 6))) (M 7))
def fW (c : Fin 8) : EReal := Ideal.exp (M c - fM M)
def fL : EReal := (((((((fW M 0 * L 0 + fW M 1 * L 1) + fW M 2 * L 2) + fW M 3 * L 3) + fW M 4 * L 4) + fW M 5 * L 5) + fW M 6 * L 6) + fW M 7 * L 7)
def fF (c : Fin 8) : EReal := fW M c * Ideal.div 1 (fL M L)
def fS : EReal := (((((((A 0 + A 1) + A 2) + A 3) + A 4) + A 5) + A 6) + A 7)
end Scalars

theorem one_word : Ideal.ofBits .f32 0x3F800000#32 = 1 := by
  simp only [Ideal.ofBits_one_f32]

section Read
variable {ms ls : Fin 8 → FVec Ideal S64x1 .f32} {ss : Fin 8 → FVec Ideal S64x1024 .bf16} {vs : Fin 8 → FVec Ideal S1024x128 .bf16} {os : Fin 8 → FVec Ideal S1x64x1024 .f32}
  {M L : Fin 64 → Fin 8 → EReal} {S : Fin 8 → Fin 64 → Fin 1024 → EReal} {W : Fin 8 → Fin 1024 → Fin 128 → EReal} {O : Fin 8 → Fin 64 → Fin 1024 → EReal}
  (hM : ∀ c q, ms c (ix2 q 0) = M q c) (hL : ∀ c q, ls c (ix2 q 0) = L q c) (hS : ∀ c q r, ss c (ix2 q r) = S c q r) (hW : ∀ c r d, vs c (ix2 r d) = W c r d)
  (hO : ∀ c q r, os c (ix3 0 q r) = O c q r)
include hM in
theorem tM_apply (q : Fin 64) : tM ms (ix2 q 0) = fM (M q) := by
  pointwise [tM, hM, fM]
include hM in
theorem tW_apply (c : Fin 8) (q : Fin 64) : tW ms c (ix2 q 0) = fW (M q) c := by
  pointwise [tW, hM, tM_apply hM, fW]
include hM hL in
theorem tL_apply (q : Fin 64) : tL ms ls (ix2 q 0) = fL (M q) (L q) := by
  pointwise [tL, hL, tW_apply hM, fL]
include hM hL in
theorem tI_apply (q : Fin 64) : tI ms ls (ix2 q 0) = Ideal.div 1 (fL (M q) (L q)) := by
  pointwise [tI, tL_apply hM hL, one_word]
include hM hL hS in
theorem tA_apply (c : Fin 8) (q : Fin 64) (r : Fin 1024) : tA ms ls ss c (ix2 q r) = S c q r * fF (M q) (L q) c := by
  pointwise [tA, hS, tW_apply hM, tI_apply hM hL, fF]
include hM hL hS hO in
theorem tO_apply (c : Fin 8) (z : Fin 1) (q : Fin 64) (r : Fin 1024) : tO ms ls ss os c (ix3 z q r) = O c q r + S c q r * fF (M q) (L q) c * Ideal.ofBits .f32 0x3E000000#32 := by
  pointwise [tO, hO, tA_apply hM hL hS]
include hM hL hS hW in
theorem tB_apply (c : Fin 8) (q : Fin 64) (d : Fin 128) : tB ms ls ss vs c (ix2 q d) = ∑ r : Fin 1024, S c q r * fF (M q) (L q) c * W c r d := by
  pointwise [tB, hW, tA_apply hM hL hS]
include hM hL hS hW in
theorem tC_apply (q : Fin 64) (d : Fin 128) : tC ms ls ss vs (ix2 q d) = fS (fun c => ∑ r : Fin 1024, S c q r * fF (M q) (L q) c * W c r d) := by
  pointwise [tC, tB_apply hM hL hS hW, fS]
end Read

/-- The eight stores to the averaged attention, the last first. -/
def oPieces (P : Fin 8 → FVec Ideal S1x64x1024 .f32) : List (View.Piece (Elt Ideal) S1x64x8192 .f32) :=
  [⟨Rect.unit ![0, 0, 7168] S1x64x1024.size inb_S1x64x8192_S1x64x1024_0_0_7168, P 7⟩,
   ⟨Rect.unit ![0, 0, 6144] S1x64x1024.size inb_S1x64x8192_S1x64x1024_0_0_6144, P 6⟩,
   ⟨Rect.unit ![0, 0, 5120] S1x64x1024.size inb_S1x64x8192_S1x64x1024_0_0_5120, P 5⟩,
   ⟨Rect.unit ![0, 0, 4096] S1x64x1024.size inb_S1x64x8192_S1x64x1024_0_0_4096, P 4⟩,
   ⟨Rect.unit ![0, 0, 3072] S1x64x1024.size inb_S1x64x8192_S1x64x1024_0_0_3072, P 3⟩,
   ⟨Rect.unit ![0, 0, 2048] S1x64x1024.size inb_S1x64x8192_S1x64x1024_0_0_2048, P 2⟩,
   ⟨Rect.unit ![0, 0, 1024] S1x64x1024.size inb_S1x64x8192_S1x64x1024_0_0_1024, P 1⟩,
   ⟨Rect.unit ![0, 0, 0] S1x64x1024.size inb_S1x64x8192_S1x64x1024_0_0_0, P 0⟩]

theorem oPieces_congr (P : Fin 8 → FVec Ideal S1x64x1024 .f32) (a0 a1 a2 a3 a4 a5 a6 a7 : FVec Ideal S1x64x1024 .f32)
    (e0 : a0 = P 0) (e1 : a1 = P 1) (e2 : a2 = P 2) (e3 : a3 = P 3) (e4 : a4 = P 4) (e5 : a5 = P 5) (e6 : a6 = P 6) (e7 : a7 = P 7) :
    ([⟨Rect.unit ![0, 0, 7168] S1x64x1024.size inb_S1x64x8192_S1x64x1024_0_0_7168, a7⟩,
   ⟨Rect.unit ![0, 0, 6144] S1x64x1024.size inb_S1x64x8192_S1x64x1024_0_0_6144, a6⟩,
   ⟨Rect.unit ![0, 0, 5120] S1x64x1024.size inb_S1x64x8192_S1x64x1024_0_0_5120, a5⟩,
   ⟨Rect.unit ![0, 0, 4096] S1x64x1024.size inb_S1x64x8192_S1x64x1024_0_0_4096, a4⟩,
   ⟨Rect.unit ![0, 0, 3072] S1x64x1024.size inb_S1x64x8192_S1x64x1024_0_0_3072, a3⟩,
   ⟨Rect.unit ![0, 0, 2048] S1x64x1024.size inb_S1x64x8192_S1x64x1024_0_0_2048, a2⟩,
   ⟨Rect.unit ![0, 0, 1024] S1x64x1024.size inb_S1x64x8192_S1x64x1024_0_0_1024, a1⟩,
   ⟨Rect.unit ![0, 0, 0] S1x64x1024.size inb_S1x64x8192_S1x64x1024_0_0_0, a0⟩] : List (View.Piece (Elt Ideal) S1x64x8192 .f32)) = oPieces P := by
  subst e0 e1 e2 e3 e4 e5 e6 e7; rfl

theorem emb_o {n : ℕ} {inb} (c : Fin 8) (hn : n = 1024 * c.val) (z : Fin 1) (q : Fin 64) (r : Fin 1024) :
    (Rect.unit (s := S1x64x8192) ![0, 0, n] S1x64x1024.size inb).emb (ix3 z q r) = ix3 0 q (at8 c r) := by
  subst hn; funext a; apply Fin.ext
  have := z.isLt
  match a with
  | ⟨0, _⟩ => show 0 + 1 * z.val = 0; omega
  | ⟨1, _⟩ => show 0 + 1 * q.val = q.val; omega
  | ⟨2, _⟩ => show 1024 * c.val + 1 * r.val = 1024 * c.val + r.val; omega

theorem mem_o {n : ℕ} {inb} (c : Fin 8) (hn : n = 1024 * c.val) (q : Fin 64) (r : Fin 1024) :
    (ix3 0 q (at8 c r) : S1x64x8192.Idx) ∈ (Rect.unit (s := S1x64x8192) ![0, 0, n] S1x64x1024.size inb).set := by
  subst hn
  rw [Rect.mem_set_unit]
  intro a
  match a with
  | ⟨0, _⟩ => show 0 ≤ 0 ∧ 0 < 0 + 1; omega
  | ⟨1, _⟩ => show 0 ≤ q.val ∧ q.val < 0 + 64; omega
  | ⟨2, _⟩ => show 1024 * c.val ≤ 1024 * c.val + r.val ∧ 1024 * c.val + r.val < 1024 * c.val + 1024; omega

theorem o_new {sig' : RefSig} {κ' : Kind} {sp : Space} (v : View sig' κ' sp S1x64x8192 .f32) (f : v.ty.Contents (Elt Ideal)) {P : Fin 8 → FVec Ideal S1x64x1024 .f32} {G : Fin 8 → Fin 64 → Fin 1024 → EReal}
    (hP : ∀ c z q r, P c (ix3 z q r) = G c q r) (c : Fin 8) (q : Fin 64) (r : Fin 1024) :
    v.read (Elt Ideal) (v.writes (Elt Ideal) f (oPieces P)) (ix3 0 q (at8 c r)) = G c q r := by
  have key : ∀ (n : ℕ) (inb) (c : Fin 8), n = 1024 * c.val → ∀ x : (Rect.unit (s := S1x64x8192) ![0, 0, n] S1x64x1024.size inb).shape.Idx,
      P c x = (fun y : S1x64x8192.Idx => G ⟨(y 2).val / 1024, Nat.div_lt_of_lt_mul (y 2).isLt⟩ (y 1) ⟨(y 2).val % 1024, Nat.mod_lt _ (by decide)⟩) ((Rect.unit (s := S1x64x8192) ![0, 0, n] S1x64x1024.size inb).emb x) := by
    intro n inb c hn x
    obtain ⟨z, q, r, rfl⟩ : ∃ (z : Fin 1) (q : Fin 64) (r : Fin 1024), x = ix3 z q r := ⟨x 0, x 1, x 2, eq_ix3 x⟩
    rw [emb_o c hn]
    refine (hP c z q r).trans ?_
    have e1 : c = ⟨(1024 * c.val + r.val) / 1024, by omega⟩ := Fin.ext (by show c.val = (1024 * c.val + r.val) / 1024; omega)
    have e2 : r = ⟨(1024 * c.val + r.val) % 1024, by omega⟩ := Fin.ext (by show r.val = (1024 * c.val + r.val) % 1024; omega)
    exact (congrArg (fun c => G c q r) e1).trans (congrArg (G _ q) e2)
  have e := View.read_writes_apply_of_pieces v f (fun y : S1x64x8192.Idx => (G ⟨(y 2).val / 1024, Nat.div_lt_of_lt_mul (y 2).isLt⟩ (y 1) ⟨(y 2).val % 1024, Nat.mod_lt _ (by decide)⟩ : Elt Ideal .f32)) (oPieces P) ?_ (ix3 0 q (at8 c r)) ?_
  · refine e.trans ?_
    have e1 : (⟨(1024 * c.val + r.val) / 1024, by omega⟩ : Fin 8) = c := Fin.ext (by show (1024 * c.val + r.val) / 1024 = c.val; omega)
    have e2 : (⟨(1024 * c.val + r.val) % 1024, by omega⟩ : Fin 1024) = r := Fin.ext (by show (1024 * c.val + r.val) % 1024 = r.val; omega)
    exact (congrArg (fun c => G c q _) e1).trans (congrArg (G _ q) e2)
  · intro p hp
    simp only [oPieces, List.mem_cons, List.not_mem_nil, or_false] at hp
    rcases hp with rfl | rfl | rfl | rfl | rfl | rfl | rfl | rfl
    · exact key 7168 inb_S1x64x8192_S1x64x1024_0_0_7168 7 rfl
    · exact key 6144 inb_S1x64x8192_S1x64x1024_0_0_6144 6 rfl
    · exact key 5120 inb_S1x64x8192_S1x64x1024_0_0_5120 5 rfl
    · exact key 4096 inb_S1x64x8192_S1x64x1024_0_0_4096 4 rfl
    · exact key 3072 inb_S1x64x8192_S1x64x1024_0_0_3072 3 rfl
    · exact key 2048 inb_S1x64x8192_S1x64x1024_0_0_2048 2 rfl
    · exact key 1024 inb_S1x64x8192_S1x64x1024_0_0_1024 1 rfl
    · exact key 0 inb_S1x64x8192_S1x64x1024_0_0_0 0 rfl
  · match c with
    | ⟨7, _⟩ => exact ⟨_, List.mem_cons_self, mem_o (inb := inb_S1x64x8192_S1x64x1024_0_0_7168) 7 rfl q r⟩
    | ⟨6, _⟩ => exact ⟨_, .tail _ (List.mem_cons_self), mem_o (inb := inb_S1x64x8192_S1x64x1024_0_0_6144) 6 rfl q r⟩
    | ⟨5, _⟩ => exact ⟨_, .tail _ (.tail _ (List.mem_cons_self)), mem_o (inb := inb_S1x64x8192_S1x64x1024_0_0_5120) 5 rfl q r⟩
    | ⟨4, _⟩ => exact ⟨_, .tail _ (.tail _ (.tail _ (List.mem_cons_self))), mem_o (inb := inb_S1x64x8192_S1x64x1024_0_0_4096) 4 rfl q r⟩
    | ⟨3, _⟩ => exact ⟨_, .tail _ (.tail _ (.tail _ (.tail _ (List.mem_cons_self)))), mem_o (inb := inb_S1x64x8192_S1x64x1024_0_0_3072) 3 rfl q r⟩
    | ⟨2, _⟩ => exact ⟨_, .tail _ (.tail _ (.tail _ (.tail _ (.tail _ (List.mem_cons_self))))), mem_o (inb := inb_S1x64x8192_S1x64x1024_0_0_2048) 2 rfl q r⟩
    | ⟨1, _⟩ => exact ⟨_, .tail _ (.tail _ (.tail _ (.tail _ (.tail _ (.tail _ (List.mem_cons_self)))))), mem_o (inb := inb_S1x64x8192_S1x64x1024_0_0_1024) 1 rfl q r⟩
    | ⟨0, _⟩ => exact ⟨_, .tail _ (.tail _ (.tail _ (.tail _ (.tail _ (.tail _ (.tail _ (List.mem_cons_self))))))), mem_o (inb := inb_S1x64x8192_S1x64x1024_0_0_0) 0 rfl q r⟩

variable (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S64x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x2048 .bf16) (harg7 : arg7.IsWhole) (arg8 : Memref sig .tc .vmem S1x2048 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x64x1024 .f32) (harg13 : arg13.IsWhole) (arg14 : Memref sig .tc .vmem S1x64x8192 .f32) (harg14 : arg14.IsWhole) (arg15 : Memref sig .tc .vmem S64x1024 .bf16) (harg15 : arg15.IsWhole) (arg16 : Memref sig .tc .vmem S1024x1024 .bf16) (harg16 : arg16.IsWhole) (arg17 : Memref sig .tc .vmem S1024x1024 .bf16) (harg17 : arg17.IsWhole) (arg18 : Memref sig .tc .vmem S8192x1024 .bf16) (harg18 : arg18.IsWhole) (arg19 : Memref sig .tc .vmem S8x64x8192 .bf16) (harg19 : arg19.IsWhole) (arg20 : Memref sig .tc .vmem S64x64x1 .f32) (harg20 : arg20.IsWhole) (arg21 : Memref sig .tc .vmem S64x64x1 .f32) (harg21 : arg21.IsWhole) (arg22 : Memref sig .tc .vmem S64x1024 .f32) (harg22 : arg22.IsWhole)
variable (h2 : k0_cond2 i = 1#1) (X18 : BufTy.Contents (Elt Ideal) arg18.view.ty) (X19 : BufTy.Contents (Elt Ideal) arg19.view.ty) (X20 : BufTy.Contents (Elt Ideal) arg20.view.ty) (X21 : BufTy.Contents (Elt Ideal) arg21.view.ty) (k : Fin k0_t1_loop.trips)
  (f14 : BufTy.Contents (Elt Ideal) arg14.view.ty) (f22 : BufTy.Contents (Elt Ideal) arg22.view.ty)

/-- Block `c`'s largest scores and sums of head `k`. -/
def msR (c : Fin 8) : FVec Ideal S64x1 .f32 :=
  shapeCast S64x1 (View.readAt (Elt Ideal) arg20.view (Rect.unit (s := S64x64x1) (k0_off11 k (BitVec.ofNat 32 c.val)) S1x64x1.size (k0_off11_inb i k h2 c)).toLoadRect X20) shapeCasts_S1x64x1_S64x1
def lsR : Fin 8 → FVec Ideal S64x1 .f32
  | 0 => shapeCast S64x1 (View.readAt (Elt Ideal) arg21.view (Rect.unit (s := S64x64x1) (k0_off12 k) S1x64x1.size (k0_off12_inb i k h2)).toLoadRect X21) shapeCasts_S1x64x1_S64x1
  | c => shapeCast S64x1 (View.readAt (Elt Ideal) arg21.view (Rect.unit (s := S64x64x1) (k0_off11 k (BitVec.ofNat 32 c.val)) S1x64x1.size (k0_off11_inb i k h2 c)).toLoadRect X21) shapeCasts_S1x64x1_S64x1
theorem inb_ss (c : Fin 8) : ∀ a, (![0, 1024 * c.val] : Fin 2 → ℕ) a + S64x1024.size a ≤ S64x8192.size a := fun a => by
  match a with
  | ⟨0, _⟩ => show 0 + 64 ≤ 64; omega
  | ⟨1, _⟩ => show 1024 * c.val + 1024 ≤ 8192; omega
def ssR (c : Fin 8) : FVec Ideal S64x1024 .bf16 :=
  View.readAt (Elt Ideal) ((arg19.slice (Rect.unit (k0_off13 k) S1x64x8192.size (k0_off13_inb i k h2)) (fun _ => rfl)).squeeze S64x8192 squeezes_S1x64x8192_S64x8192).view
    (Rect.unit (s := S64x8192) ![0, 1024 * c.val] S64x1024.size (inb_ss c)).toLoadRect X19
def vsR : Fin 8 → FVec Ideal S1024x128 .bf16
  | 0 => View.readAt (Elt Ideal) arg18.view (Rect.unit (s := S8192x1024) (k0_off14 k) S1024x128.size (k0_off14_inb i k h2)).toLoadRect X18
  | 1 => View.readAt (Elt Ideal) arg18.view (Rect.unit (s := S8192x1024) (k0_off15 k) S1024x128.size (k0_off15_inb i k h2)).toLoadRect X18
  | 2 => View.readAt (Elt Ideal) arg18.view (Rect.unit (s := S8192x1024) (k0_off16 k) S1024x128.size (k0_off16_inb i k h2)).toLoadRect X18
  | 3 => View.readAt (Elt Ideal) arg18.view (Rect.unit (s := S8192x1024) (k0_off17 k) S1024x128.size (k0_off17_inb i k h2)).toLoadRect X18
  | 4 => View.readAt (Elt Ideal) arg18.view (Rect.unit (s := S8192x1024) (k0_off18 k) S1024x128.size (k0_off18_inb i k h2)).toLoadRect X18
  | 5 => View.readAt (Elt Ideal) arg18.view (Rect.unit (s := S8192x1024) (k0_off19 k) S1024x128.size (k0_off19_inb i k h2)).toLoadRect X18
  | 6 => View.readAt (Elt Ideal) arg18.view (Rect.unit (s := S8192x1024) (k0_off20 k) S1024x128.size (k0_off20_inb i k h2)).toLoadRect X18
  | 7 => View.readAt (Elt Ideal) arg18.view (Rect.unit (s := S8192x1024) (k0_off21 k) S1024x128.size (k0_off21_inb i k h2)).toLoadRect X18
theorem inb_os (c : Fin 8) : ∀ a, (![0, 0, 1024 * c.val] : Fin 3 → ℕ) a + S1x64x1024.size a ≤ S1x64x8192.size a := fun a => by
  match a with
  | ⟨0, _⟩ => show 0 + 1 ≤ 1; omega
  | ⟨1, _⟩ => show 0 + 64 ≤ 64; omega
  | ⟨2, _⟩ => show 1024 * c.val + 1024 ≤ 8192; omega
def osR (c : Fin 8) : FVec Ideal S1x64x1024 .f32 :=
  View.readAt (Elt Ideal) arg14.view (Rect.unit (s := S1x64x8192) ![0, 0, 1024 * c.val] S1x64x1024.size (inb_os c)).toLoadRect f14

theorem trip_14 : (trip (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h2 X18 X19 X20 X21 k).1 f14 f22 = oPieces (tO (msR i arg20 h2 X20 k) (lsR i arg21 h2 X21 k) (ssR i arg19 h2 X19 k) (osR arg14 f14)) := by
  unfold trip; dsimp only []
  exact oPieces_congr _ _ _ _ _ _ _ _ _ rfl rfl rfl rfl rfl rfl rfl rfl

theorem trip_22 : (trip (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h2 X18 X19 X20 X21 k).2.1 f14 f22 = [⟨Rect.unit (k0_off22 k) S64x128.size (k0_off22_inb i k h2), tC (msR i arg20 h2 X20 k) (lsR i arg21 h2 X21 k) (ssR i arg19 h2 X19 k) (vsR i arg18 h2 X18 k)⟩] := by
  unfold trip; dsimp only []
  exact congrArg (fun p => ([⟨Rect.unit (s := S64x1024) (k0_off22 k) S64x128.size (k0_off22_inb i k h2), p⟩] : List (View.Piece (Elt Ideal) S64x1024 .f32))) rfl

end Cert.KernelIdeal.Head

end
-- ==== Proof.Held.lean ====
/- The last block's loop: what the averaged attention and the concatenated heads read after some trips. -/
module

public import proofs.«01_k».proof.Proof.Trip

@[expose] public section

set_option maxRecDepth 16384
set_option maxHeartbeats 1000000

noncomputable section

namespace Cert.KernelIdeal.Head

open Cert.KernelIdeal Cert.KernelIdeal.Gen
open Idealize.ShloMosaic Idealize.ShloMosaic.TcCoe Idealize.SL.Sem

theorem trips8 : k0_t1_loop.trips = 8 := by decide +kernel

theorem read_row {sig' : RefSig} {κ' : Kind} {sp : Space} (v : View sig' κ' sp S64x64x1 .f32) (X : v.ty.Contents (Elt Ideal)) {off : Fin 3 → ℕ} (inb) (h j : Fin 8)
    (ho : off = ![8 * h.val + j.val, 0, 0]) (q : Fin 64) :
    (shapeCast S64x1 (View.readAt (Elt Ideal) v (Rect.unit (s := S64x64x1) off S1x64x1.size inb).toLoadRect X : FVec Ideal S1x64x1 .f32) shapeCasts_S1x64x1_S64x1 : FVec Ideal S64x1 .f32) (ix2 q 0)
      = v.read (Elt Ideal) X (ix3 (row8 h j) q 0) := by
  have e : ∀ Y : FVec Ideal S1x64x1 .f32, (shapeCast S64x1 Y shapeCasts_S1x64x1_S64x1 : FVec Ideal S64x1 .f32) (ix2 q 0) = Y (ix3 0 q 0) := fun Y => by pointwise
  rw [e]
  exact congrArg (v.read (Elt Ideal) X) (emb_r (n := 8 * h.val + j.val) (inb := inb) ho (by omega) 0 q 0)

theorem cols {off : Fin 2 → ℕ} {R C c0 : ℕ} (inb) (h j : Fin 8) (ho : off = ![1024 * j.val, 128 * h.val]) (r : Fin 1024) (d : Fin 128) :
    (Rect.unit (s := S8192x1024) off S1024x128.size inb).emb (ix2 r d) = ix2 (at8 j r) (hd h d) := by
  subst ho; funext a; apply Fin.ext
  match a with
  | ⟨0, _⟩ => show 1024 * j.val + 1 * r.val = 1024 * j.val + r.val; omega
  | ⟨1, _⟩ => show 128 * h.val + 1 * d.val = 128 * h.val + d.val; omega

theorem cat_emb {off : Fin 2 → ℕ} (inb) (h : Fin 8) (ho : off = ![0, 128 * h.val]) (q : Fin 64) (d : Fin 128) :
    (Rect.unit (s := S64x1024) off S64x128.size inb).emb (ix2 q d) = ix2 q (hd h d) := by
  subst ho; funext a; apply Fin.ext
  match a with
  | ⟨0, _⟩ => show 0 + 1 * q.val = q.val; omega
  | ⟨1, _⟩ => show 128 * h.val + 1 * d.val = 128 * h.val + d.val; omega

theorem cat_mem {off : Fin 2 → ℕ} {inb} {n : ℕ} (ho : off = ![0, 128 * n]) (h : Fin 8) (q : Fin 64) (d : Fin 128) :
    (ix2 q (hd h d) : S64x1024.Idx) ∈ (Rect.unit (s := S64x1024) off S64x128.size inb).set → h.val = n := by
  subst ho
  rw [Rect.mem_set_unit]
  intro H
  have h1 : 128 * n ≤ 128 * h.val + d.val ∧ 128 * h.val + d.val < 128 * n + 128 := H 1
  omega

variable (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S64x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x2048 .bf16) (harg7 : arg7.IsWhole) (arg8 : Memref sig .tc .vmem S1x2048 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x64x1024 .f32) (harg13 : arg13.IsWhole) (arg14 : Memref sig .tc .vmem S1x64x8192 .f32) (harg14 : arg14.IsWhole) (arg15 : Memref sig .tc .vmem S64x1024 .bf16) (harg15 : arg15.IsWhole) (arg16 : Memref sig .tc .vmem S1024x1024 .bf16) (harg16 : arg16.IsWhole) (arg17 : Memref sig .tc .vmem S1024x1024 .bf16) (harg17 : arg17.IsWhole) (arg18 : Memref sig .tc .vmem S8192x1024 .bf16) (harg18 : arg18.IsWhole) (arg19 : Memref sig .tc .vmem S8x64x8192 .bf16) (harg19 : arg19.IsWhole) (arg20 : Memref sig .tc .vmem S64x64x1 .f32) (harg20 : arg20.IsWhole) (arg21 : Memref sig .tc .vmem S64x64x1 .f32) (harg21 : arg21.IsWhole) (arg22 : Memref sig .tc .vmem S64x1024 .f32) (harg22 : arg22.IsWhole)
variable (h2 : k0_cond2 i = 1#1) (X18 : BufTy.Contents (Elt Ideal) arg18.view.ty) (X19 : BufTy.Contents (Elt Ideal) arg19.view.ty) (X20 : BufTy.Contents (Elt Ideal) arg20.view.ty) (X21 : BufTy.Contents (Elt Ideal) arg21.view.ty) (k : Fin k0_t1_loop.trips)
  (f14 : BufTy.Contents (Elt Ideal) arg14.view.ty) (G14 : BufTy.Contents (Elt Ideal) arg14.view.ty) (G22 : BufTy.Contents (Elt Ideal) arg22.view.ty)
  (h : Fin 8) (hk : k.val = h.val)
include hk

theorem msR_apply (j : Fin 8) (q : Fin 64) : msR i arg20 h2 X20 k j (ix2 q 0) = arg20.view.read (Elt Ideal) X20 (ix3 (row8 h j) q 0) :=
  read_row arg20.view X20 _ h j (by rw [k0_off11_eq, hk]) q
theorem lsR_apply (j : Fin 8) (q : Fin 64) : lsR i arg21 h2 X21 k j (ix2 q 0) = arg21.view.read (Elt Ideal) X21 (ix3 (row8 h j) q 0) := by
  match j with
  | ⟨0, _⟩ => exact read_row arg21.view X21 _ h 0 (by rw [k0_off12_eq, hk]; rfl) q
  | ⟨1, _⟩ => exact read_row arg21.view X21 _ h 1 ((k0_off11_eq k 1).trans (by rw [hk])) q
  | ⟨2, _⟩ => exact read_row arg21.view X21 _ h 2 ((k0_off11_eq k 2).trans (by rw [hk])) q
  | ⟨3, _⟩ => exact read_row arg21.view X21 _ h 3 ((k0_off11_eq k 3).trans (by rw [hk])) q
  | ⟨4, _⟩ => exact read_row arg21.view X21 _ h 4 ((k0_off11_eq k 4).trans (by rw [hk])) q
  | ⟨5, _⟩ => exact read_row arg21.view X21 _ h 5 ((k0_off11_eq k 5).trans (by rw [hk])) q
  | ⟨6, _⟩ => exact read_row arg21.view X21 _ h 6 ((k0_off11_eq k 6).trans (by rw [hk])) q
  | ⟨7, _⟩ => exact read_row arg21.view X21 _ h 7 ((k0_off11_eq k 7).trans (by rw [hk])) q
theorem ssR_apply (j : Fin 8) (q : Fin 64) (r : Fin 1024) : ssR i arg19 h2 X19 k j (ix2 q r) = arg19.view.read (Elt Ideal) X19 (ix3 h q (at8 j r)) := by
  have hc : S1x64x8192.ShapeCasts S64x8192 := by decide
  have e : ∀ Y : FVec Ideal S1x64x8192 .bf16, (shapeCast S64x8192 Y hc : FVec Ideal S64x8192 .bf16) (ix2 q (at8 j r)) = Y (ix3 0 q (at8 j r)) := fun Y => by pointwise
  have e1 : (Rect.unit (s := S64x8192) ![0, 1024 * j.val] S64x1024.size (inb_ss j)).emb (ix2 q r) = ix2 q (at8 j r) := by
    funext a; apply Fin.ext
    match a with
    | ⟨0, _⟩ => show 0 + 1 * q.val = q.val; omega
    | ⟨1, _⟩ => show 1024 * j.val + 1 * r.val = 1024 * j.val + r.val; omega
  have e2 : (Rect.unit (s := S8x64x8192) (k0_off13 k) S1x64x8192.size (k0_off13_inb i k h2)).emb (ix3 0 q (at8 j r)) = ix3 h q (at8 j r) := by
    have ho := k0_off13_eq k
    rw [hk] at ho
    funext a; apply Fin.ext
    match a with
    | ⟨0, _⟩ => show (k0_off13 k) 0 + 1 * 0 = h.val; rw [ho]; show h.val + 1 * 0 = h.val; omega
    | ⟨1, _⟩ => show (k0_off13 k) 1 + 1 * q.val = q.val; rw [ho]; show 0 + 1 * q.val = q.val; omega
    | ⟨2, _⟩ => show (k0_off13 k) 2 + 1 * (at8 j r).val = (at8 j r).val; rw [ho]; show 0 + 1 * (at8 j r).val = (at8 j r).val; omega
  refine (congrArg (((arg19.slice (Rect.unit (k0_off13 k) S1x64x8192.size (k0_off13_inb i k h2)) (fun _ => rfl)).squeeze S64x8192 squeezes_S1x64x8192_S64x8192).view.read (Elt Ideal) X19) e1).trans ?_
  refine (congrFun (Memref.read_squeeze_slice arg19 (Rect.unit (k0_off13 k) S1x64x8192.size (k0_off13_inb i k h2)) (fun _ => rfl) squeezes_S1x64x8192_S64x8192 hc X19) (ix2 q (at8 j r))).trans ?_
  exact (e _).trans (congrArg (arg19.view.read (Elt Ideal) X19) e2)
theorem vsR_apply (j : Fin 8) (r : Fin 1024) (d : Fin 128) : vsR i arg18 h2 X18 k j (ix2 r d) = arg18.view.read (Elt Ideal) X18 (ix2 (at8 j r) (hd h d)) := by
  match j with
  | ⟨0, _⟩ => exact congrArg (arg18.view.read (Elt Ideal) X18) (cols (R := 0) (C := 0) (c0 := 0) (k0_off14_inb i k h2) h 0 (by rw [k0_off14_eq, hk]; rfl) r d)
  | ⟨1, _⟩ => exact congrArg (arg18.view.read (Elt Ideal) X18) (cols (R := 0) (C := 0) (c0 := 0) (k0_off15_inb i k h2) h 1 (by rw [k0_off15_eq, hk]; rfl) r d)
  | ⟨2, _⟩ => exact congrArg (arg18.view.read (Elt Ideal) X18) (cols (R := 0) (C := 0) (c0 := 0) (k0_off16_inb i k h2) h 2 (by rw [k0_off16_eq, hk]; rfl) r d)
  | ⟨3, _⟩ => exact congrArg (arg18.view.read (Elt Ideal) X18) (cols (R := 0) (C := 0) (c0 := 0) (k0_off17_inb i k h2) h 3 (by rw [k0_off17_eq, hk]; rfl) r d)
  | ⟨4, _⟩ => exact congrArg (arg18.view.read (Elt Ideal) X18) (cols (R := 0) (C := 0) (c0 := 0) (k0_off18_inb i k h2) h 4 (by rw [k0_off18_eq, hk]; rfl) r d)
  | ⟨5, _⟩ => exact congrArg (arg18.view.read (Elt Ideal) X18) (cols (R := 0) (C := 0) (c0 := 0) (k0_off19_inb i k h2) h 5 (by rw [k0_off19_eq, hk]; rfl) r d)
  | ⟨6, _⟩ => exact congrArg (arg18.view.read (Elt Ideal) X18) (cols (R := 0) (C := 0) (c0 := 0) (k0_off20_inb i k h2) h 6 (by rw [k0_off20_eq, hk]; rfl) r d)
  | ⟨7, _⟩ => exact congrArg (arg18.view.read (Elt Ideal) X18) (cols (R := 0) (C := 0) (c0 := 0) (k0_off21_inb i k h2) h 7 (by rw [k0_off21_eq, hk]; rfl) r d)
omit hk
theorem osR_apply (j : Fin 8) (q : Fin 64) (r : Fin 1024) : osR arg14 f14 j (ix3 0 q r) = arg14.view.read (Elt Ideal) f14 (ix3 0 q (at8 j r)) :=
  congrArg (arg14.view.read (Elt Ideal) f14) (emb_o (inb := inb_os j) j rfl 0 q r)

section Run
variable {P : Fin 8 → Fin 64 → Fin 8 → Fin 1024 → EReal} {M L : Fin 8 → Fin 64 → Fin 8 → EReal} {W : Fin 8192 → Fin 1024 → EReal}
  (hv : ∀ j r e, arg18.view.read (Elt Ideal) X18 (ix2 (at8 j r) e) = W (at8 j r) e)
  (hs : ∀ h q j r, arg19.view.read (Elt Ideal) X19 (ix3 h q (at8 j r)) = P h q j r)
  (hm : ∀ h q j, arg20.view.read (Elt Ideal) X20 (ix3 (row8 h j) q 0) = M h q j)
  (hl : ∀ h q j, arg21.view.read (Elt Ideal) X21 (ix3 (row8 h j) q 0) = L h q j)
  (h0 : ∀ q j r, arg14.view.read (Elt Ideal) G14 (ix3 0 q (at8 j r)) = 0)

/-- The attention of head `h`, query `q`, at position `r` of block `j`, as the loop forms it. -/
def att (P : Fin 8 → Fin 64 → Fin 8 → Fin 1024 → EReal) (M L : Fin 8 → Fin 64 → Fin 8 → EReal) (h : Fin 8) (q : Fin 64) (j : Fin 8) (r : Fin 1024) : EReal :=
  P h q j r * fF (M h q) (L h q) j

include hs hm hl h0 in
theorem held_14 (n : ℕ) (hn : n ≤ 8) (q : Fin 64) (j : Fin 8) (r : Fin 1024) :
    arg14.view.read (Elt Ideal) (held (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h2 X18 X19 X20 X21 G14 G22 n).1 (ix3 0 q (at8 j r)) = ∑ h : Fin n, att P M L (h.castLE hn) q j r * Ideal.ofBits .f32 0x3E000000#32 := by
  induction n generalizing q j r with
  | zero => exact (h0 q j r).trans (by simp)
  | succ n ih =>
    have hs' := held_succ (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h2 X18 X19 X20 X21 G14 G22 ⟨n, by rw [trips8]; omega⟩
    refine (congrArg (fun p => arg14.view.read (Elt Ideal) p.1 (ix3 0 q (at8 j r))) hs').trans ?_
    dsimp only
    rw [trip_14, Fin.sum_univ_castSucc]
    let hh : Fin 8 := ⟨n, by omega⟩
    refine (o_new arg14.view _ (G := fun j q r => _ + P hh q j r * fF (M hh q) (L hh q) j * Ideal.ofBits .f32 0x3E000000#32) (fun j z q r => tO_apply (M := M hh) (L := L hh) (S := fun j q r => P hh q j r)
      (O := fun j q r => ∑ h : Fin n, att P M L (h.castLE (by omega)) q j r * Ideal.ofBits .f32 0x3E000000#32) ?_ ?_ ?_ ?_ j z q r) j q r).trans ?_
    · exact fun j q => (msR_apply i arg20 h2 X20 _ hh rfl j q).trans (hm hh q j)
    · exact fun j q => (lsR_apply i arg21 h2 X21 _ hh rfl j q).trans (hl hh q j)
    · exact fun j q r => (ssR_apply i arg19 h2 X19 _ hh rfl j q r).trans (hs hh q j r)
    · exact fun j q r => (osR_apply arg14 _ j q r).trans (ih (by omega) q j r)
    · rfl

include hv hs hm hl in
theorem held_22 (n : ℕ) (hn : n ≤ 8) (h : Fin 8) (hh : h.val < n) (q : Fin 64) (d : Fin 128) :
    arg22.view.read (Elt Ideal) (held (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h2 X18 X19 X20 X21 G14 G22 n).2 (ix2 q (hd h d)) = fS (fun j => ∑ r : Fin 1024, att P M L h q j r * W (at8 j r) (hd h d)) := by
  induction n with
  | zero => omega
  | succ n ih =>
    have hs' := held_succ (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h2 X18 X19 X20 X21 G14 G22 ⟨n, by rw [trips8]; omega⟩
    refine (congrArg (fun p => arg22.view.read (Elt Ideal) p.2 (ix2 q (hd h d))) hs').trans ?_
    dsimp only
    rw [trip_22]
    by_cases e : h.val = n
    · rw [← cat_emb (k0_off22_inb i ⟨n, by rw [trips8]; omega⟩ h2) h (by rw [k0_off22_eq, e]) q d]
      refine (View.read_writes_cons_emb arg22.view _ (Rect.unit (s := S64x1024) (k0_off22 ⟨n, by rw [trips8]; omega⟩) S64x128.size (k0_off22_inb i ⟨n, by rw [trips8]; omega⟩ h2)) _ [] (ix2 q d)).trans ?_
      show _ = fS (fun j => ∑ r : Fin 1024, P h q j r * fF (M h q) (L h q) j * W (at8 j r) (hd h d))
      refine tC_apply (M := M h) (L := L h) (S := fun j q r => P h q j r) (W := fun j r d => W (at8 j r) (hd h d)) ?_ ?_ ?_ ?_ q d
      · exact fun j q => (msR_apply i arg20 h2 X20 _ h e.symm j q).trans (hm h q j)
      · exact fun j q => (lsR_apply i arg21 h2 X21 _ h e.symm j q).trans (hl h q j)
      · exact fun j q r => (ssR_apply i arg19 h2 X19 _ h e.symm j q r).trans (hs h q j r)
      · exact fun j r d => (vsR_apply i arg18 h2 X18 _ h e.symm j r d).trans (hv j r (hd h d))
    · refine (View.read_writes_apply_of_forall_not_mem arg22.view _ _ _ ?_).trans (ih (by omega) (by omega))
      intro p hp
      simp only [List.mem_cons, List.not_mem_nil, or_false] at hp
      subst hp
      exact fun hmem => e (cat_mem (inb := k0_off22_inb i ⟨n, by rw [trips8]; omega⟩ h2) (k0_off22_eq ⟨n, by rw [trips8]; omega⟩) h q d hmem)
end Run

end Cert.KernelIdeal.Head

end
-- ==== Proof.Stores.lean ====
/- What each head stores, read off the buffers that the body reads. -/
module

public import proofs.«01_k».proof.Proof.Gen.KernelIdeal.Skeleton
public import proofs.«01_k».proof.Proof.Pieces

@[expose] public section

set_option maxRecDepth 16384
set_option maxHeartbeats 1000000

noncomputable section

namespace Cert.KernelIdeal.Head

open Cert.KernelIdeal Cert.KernelIdeal.Gen
open Idealize.ShloMosaic Idealize.ShloMosaic.TcCoe Idealize.SL.Sem

abbrev V2 (S : Shape) (e : EltTy) := Memref sig .tc .vmem S e

theorem inb_q (h : Fin 8) : ∀ a, (![0, 128 * h.val] : Fin 2 → ℕ) a + S64x128.size a ≤ S64x1024.size a := fun a => by
  match a with
  | ⟨0, _⟩ => show 0 + 64 ≤ 64; omega
  | ⟨1, _⟩ => show 128 * h.val + 128 ≤ 1024; omega

theorem inb_k (h : Fin 8) : ∀ a, (![0, 128 * h.val] : Fin 2 → ℕ) a + S1024x128.size a ≤ S1024x1024.size a := fun a => by
  match a with
  | ⟨0, _⟩ => show 0 + 1024 ≤ 1024; omega
  | ⟨1, _⟩ => show 128 * h.val + 128 ≤ 1024; omega

/-- A head's columns of the projected queries. -/
def queryR (a : V2 S64x1024 .bf16) (X : BufTy.Contents (Elt Ideal) a.view.ty) (h : Fin 8) : FVec Ideal S64x128 .bf16 :=
  View.readAt (Elt Ideal) a.view (Rect.unit (s := S64x1024) ![0, 128 * h.val] S64x128.size (inb_q h)).toLoadRect X
/-- A head's columns of the queries, read back from a store. -/
def queryC (a : V2 S64x1024 .bf16) (L : List (View.Piece (Elt Ideal) S64x1024 .bf16)) (h : Fin 8) : FVec Ideal S64x128 .bf16 :=
  a.view.readCov (Val := Elt Ideal) L (Rect.unit (s := S64x1024) ![0, 128 * h.val] S64x128.size (inb_q h)).toLoadRect
/-- A head's columns of the keys, read back from a store. -/
def keyC (a : V2 S1024x1024 .bf16) (L : List (View.Piece (Elt Ideal) S1024x1024 .bf16)) (h : Fin 8) : FVec Ideal S1024x128 .bf16 :=
  a.view.readCov (Val := Elt Ideal) L (Rect.unit (s := S1024x1024) ![0, 128 * h.val] S1024x128.size (inb_k h)).toLoadRect

def fullX (arg2 : V2 S1x1024x1024 .f32) (X2 : BufTy.Contents (Elt Ideal) arg2.view.ty) : FVec Ideal S1x1024x1024 .f32 :=
  View.readAt (Elt Ideal) arg2.view (Rect.unit ![0, 0, 0] S1x1024x1024.size inb_S1x1024x1024_S1x1024x1024_0_0_0).toLoadRect X2
def maskRead (arg3 : V2 S1x1x1024 .f32) (X3 : BufTy.Contents (Elt Ideal) arg3.view.ty) : FVec Ideal S1x1x1024 .f32 :=
  View.readAt (Elt Ideal) arg3.view (Rect.unit ![0, 0, 0] S1x1x1024.size inb_S1x1x1024_S1x1x1024_0_0_0).toLoadRect X3
def fullQ (a : V2 S64x1024 .bf16) (X : BufTy.Contents (Elt Ideal) a.view.ty) : FVec Ideal S64x1024 .bf16 :=
  View.readAt (Elt Ideal) a.view (Rect.unit ![0, 0] S64x1024.size inb_S64x1024_S64x1024_0_0).toLoadRect X
def fullW (a : V2 S1024x1024 .bf16) (X : BufTy.Contents (Elt Ideal) a.view.ty) : FVec Ideal S1024x1024 .bf16 :=
  View.readAt (Elt Ideal) a.view (Rect.unit ![0, 0] S1024x1024.size inb_S1024x1024_S1024x1024_0_0).toLoadRect X
def fullB (a : V2 S1x1024 .f32) (X : BufTy.Contents (Elt Ideal) a.view.ty) : FVec Ideal S1x1024 .f32 :=
  View.readAt (Elt Ideal) a.view (Rect.unit ![0, 0] S1x1024.size inb_S1x1024_S1x1024_0_0).toLoadRect X
def fullKV (a : V2 S1024x2048 .bf16) (X : BufTy.Contents (Elt Ideal) a.view.ty) : FVec Ideal S1024x2048 .bf16 :=
  View.readAt (Elt Ideal) a.view (Rect.unit ![0, 0] S1024x2048.size inb_S1024x2048_S1024x2048_0_0).toLoadRect X
def fullBKV (a : V2 S1x2048 .f32) (X : BufTy.Contents (Elt Ideal) a.view.ty) : FVec Ideal S1x2048 .f32 :=
  View.readAt (Elt Ideal) a.view (Rect.unit ![0, 0] S1x2048.size inb_S1x2048_S1x2048_0_0).toLoadRect X

/-- The block of the input, as it is read back from the scratch that holds it. -/
def xBack (arg2 : V2 S1x1024x1024 .f32) (arg16 : V2 S1024x1024 .bf16) (X2 : BufTy.Contents (Elt Ideal) arg2.view.ty) : FVec Ideal S1024x1024 .bf16 :=
  arg16.view.readCov (Val := Elt Ideal) [⟨Rect.unit ![0, 0] S1024x1024.size inb_S1024x1024_S1024x1024_0_0, k0_pay51 (F := Ideal) (fullX arg2 X2)⟩]
    (Rect.unit ![0, 0] S1024x1024.size inb_S1024x1024_S1024x1024_0_0).toLoadRect

/-- The store of the block's keys. -/
def keyStore (arg2 : V2 S1x1024x1024 .f32) (arg7 : V2 S1024x2048 .bf16) (arg8 : V2 S1x2048 .f32) (arg16 : V2 S1024x1024 .bf16) (X2 : BufTy.Contents (Elt Ideal) arg2.view.ty)
    (X7 : BufTy.Contents (Elt Ideal) arg7.view.ty) (X8 : BufTy.Contents (Elt Ideal) arg8.view.ty) : List (View.Piece (Elt Ideal) S1024x1024 .bf16) :=
  [⟨Rect.unit ![0, 0] S1024x1024.size inb_S1024x1024_S1024x1024_0_0, k0_pay53 (F := Ideal) (xBack arg2 arg16 X2) (fullKV arg7 X7) (fullBKV arg8 X8)⟩]
/-- The block's values. -/
def valPay (arg2 : V2 S1x1024x1024 .f32) (arg7 : V2 S1024x2048 .bf16) (arg8 : V2 S1x2048 .f32) (arg16 : V2 S1024x1024 .bf16) (X2 : BufTy.Contents (Elt Ideal) arg2.view.ty)
    (X7 : BufTy.Contents (Elt Ideal) arg7.view.ty) (X8 : BufTy.Contents (Elt Ideal) arg8.view.ty) : FVec Ideal S1024x1024 .bf16 :=
  k0_pay54 (F := Ideal) (xBack arg2 arg16 X2) (fullKV arg7 X7) (fullBKV arg8 X8)
/-- The store of the projected queries. -/
def queryStore (arg4 : V2 S64x1024 .bf16) (arg5 : V2 S1024x1024 .bf16) (arg6 : V2 S1x1024 .f32) (X4 : BufTy.Contents (Elt Ideal) arg4.view.ty)
    (X5 : BufTy.Contents (Elt Ideal) arg5.view.ty) (X6 : BufTy.Contents (Elt Ideal) arg6.view.ty) : List (View.Piece (Elt Ideal) S64x1024 .bf16) :=
  [⟨Rect.unit ![0, 0] S64x1024.size inb_S64x1024_S64x1024_0_0, k0_pay49 (F := Ideal) (fullQ arg4 X4) (fullW arg5 X5) (fullB arg6 X6)⟩]

/-- What head `h` stores: the exponentials, the largest scores, the sums. -/
def sP (qh : Fin 8 → FVec Ideal S64x128 .bf16) (kh : Fin 8 → FVec Ideal S1024x128 .bf16) (mk : FVec Ideal S1x1x1024 .f32) (h : Fin 8) : FVec Ideal S1x64x1024 .bf16 :=
  shapeCast S1x64x1024 (truncf .bf16 (pV (qh h) (kh h) mk) bitsLt_bf16_f32) shapeCasts_S64x1024_S1x64x1024
def mP (qh : Fin 8 → FVec Ideal S64x128 .bf16) (kh : Fin 8 → FVec Ideal S1024x128 .bf16) (mk : FVec Ideal S1x1x1024 .f32) (h : Fin 8) : FVec Ideal S1x64x1 .f32 :=
  shapeCast S1x64x1 (mV (qh h) (kh h) mk) shapeCasts_S64x1_S1x64x1
def lP (qh : Fin 8 → FVec Ideal S64x128 .bf16) (kh : Fin 8 → FVec Ideal S1024x128 .bf16) (mk : FVec Ideal S1x1x1024 .f32) (h : Fin 8) : FVec Ideal S1x64x1 .f32 :=
  shapeCast S1x64x1 (lV (qh h) (kh h) mk) shapeCasts_S64x1_S1x64x1

end Cert.KernelIdeal.Head

end
-- ==== Proof.Cases.lean ====
/- What the body leaves in each buffer, written with one name for what a head stores. -/
module

public import proofs.«01_k».proof.Proof.Body
public import proofs.«01_k».proof.Proof.Stores

@[expose] public section

set_option maxRecDepth 16384
set_option maxHeartbeats 1000000

noncomputable section

namespace Cert.KernelIdeal.Head

open Cert.KernelIdeal Cert.KernelIdeal.Gen
open Idealize.ShloMosaic Idealize.ShloMosaic.TcCoe Idealize.SL.Sem

variable (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S64x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x2048 .bf16) (harg7 : arg7.IsWhole) (arg8 : Memref sig .tc .vmem S1x2048 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x64x1024 .f32) (harg13 : arg13.IsWhole) (arg14 : Memref sig .tc .vmem S1x64x8192 .f32) (harg14 : arg14.IsWhole) (arg15 : Memref sig .tc .vmem S64x1024 .bf16) (harg15 : arg15.IsWhole) (arg16 : Memref sig .tc .vmem S1024x1024 .bf16) (harg16 : arg16.IsWhole) (arg17 : Memref sig .tc .vmem S1024x1024 .bf16) (harg17 : arg17.IsWhole) (arg18 : Memref sig .tc .vmem S8192x1024 .bf16) (harg18 : arg18.IsWhole) (arg19 : Memref sig .tc .vmem S8x64x8192 .bf16) (harg19 : arg19.IsWhole) (arg20 : Memref sig .tc .vmem S64x64x1 .f32) (harg20 : arg20.IsWhole) (arg21 : Memref sig .tc .vmem S64x64x1 .f32) (harg21 : arg21.IsWhole) (arg22 : Memref sig .tc .vmem S64x1024 .f32) (harg22 : arg22.IsWhole)
  (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (X17 : BufTy.Contents (Elt Ideal) arg17.view.ty) (X18 : BufTy.Contents (Elt Ideal) arg18.view.ty) (X19 : BufTy.Contents (Elt Ideal) arg19.view.ty) (X20 : BufTy.Contents (Elt Ideal) arg20.view.ty) (X21 : BufTy.Contents (Elt Ideal) arg21.view.ty) (X22 : BufTy.Contents (Elt Ideal) arg22.view.ty)

theorem middle_18 (h1 : ¬ k0_cond1 i = 1#1) (h2 : ¬ k0_cond2 i = 1#1) : (middle (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.2.1 = arg18.view.writes (Elt Ideal) X18 (vPieces i (valPay arg2 arg7 arg8 arg16 X2 X7 X8)) := by
  unfold middle; dsimp only []; exact congrArg (fun p => arg18.view.writes (Elt Ideal) X18 [⟨Rect.unit (k0_off1 i) S1024x1024.size (k0_off1_inb i), p⟩]) rfl
theorem middle_19 (h1 : ¬ k0_cond1 i = 1#1) (h2 : ¬ k0_cond2 i = 1#1) : (middle (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.2.2.1 = arg19.view.writes (Elt Ideal) X19 (sPieces i (sP (queryR arg15 X15) (keyC arg17 (keyStore arg2 arg7 arg8 arg16 X2 X7 X8)) (maskRead arg3 X3))) := by
  unfold middle; dsimp only []; exact sPieces_congr i _ _ _ _ _ _ _ _ _ _ _ rfl rfl rfl rfl rfl rfl rfl rfl
theorem middle_20 (h1 : ¬ k0_cond1 i = 1#1) (h2 : ¬ k0_cond2 i = 1#1) : (middle (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.2.2.2.1 = arg20.view.writes (Elt Ideal) X20 (rPieces i (mP (queryR arg15 X15) (keyC arg17 (keyStore arg2 arg7 arg8 arg16 X2 X7 X8)) (maskRead arg3 X3))) := by
  unfold middle; dsimp only []; exact rPieces_congr i _ _ _ _ _ _ _ _ _ _ _ rfl rfl rfl rfl rfl rfl rfl rfl
theorem middle_21 (h1 : ¬ k0_cond1 i = 1#1) (h2 : ¬ k0_cond2 i = 1#1) : (middle (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.2.2.2.2.1 = arg21.view.writes (Elt Ideal) X21 (rPieces i (lP (queryR arg15 X15) (keyC arg17 (keyStore arg2 arg7 arg8 arg16 X2 X7 X8)) (maskRead arg3 X3))) := by
  unfold middle; dsimp only []; exact rPieces_congr i _ _ _ _ _ _ _ _ _ _ _ rfl rfl rfl rfl rfl rfl rfl rfl
theorem first_14 (h1 : k0_cond1 i = 1#1) (h2 : ¬ k0_cond2 i = 1#1) : (first (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).1 = arg14.view.writes (Elt Ideal) X14 [⟨Rect.unit ![0, 0, 0] S1x64x8192.size inb_S1x64x8192_S1x64x8192_0_0_0, k0_pay50 (F := Ideal)⟩] := by
  unfold first; dsimp only []
theorem first_15 (h1 : k0_cond1 i = 1#1) (h2 : ¬ k0_cond2 i = 1#1) : (first (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.1 = arg15.view.writes (Elt Ideal) X15 (queryStore arg4 arg5 arg6 X4 X5 X6) := by
  unfold first; dsimp only []; unfold queryStore first.sl.H15_1; rfl
theorem first_18 (h1 : k0_cond1 i = 1#1) (h2 : ¬ k0_cond2 i = 1#1) : (first (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.2.2.2.1 = arg18.view.writes (Elt Ideal) X18 (vPieces i (valPay arg2 arg7 arg8 arg16 X2 X7 X8)) := by
  unfold first; dsimp only []; exact congrArg (fun p => arg18.view.writes (Elt Ideal) X18 [⟨Rect.unit (k0_off1 i) S1024x1024.size (k0_off1_inb i), p⟩]) rfl
theorem first_19 (h1 : k0_cond1 i = 1#1) (h2 : ¬ k0_cond2 i = 1#1) : (first (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.2.2.2.2.1 = arg19.view.writes (Elt Ideal) X19 (sPieces i (sP (queryC arg15 (queryStore arg4 arg5 arg6 X4 X5 X6)) (keyC arg17 (keyStore arg2 arg7 arg8 arg16 X2 X7 X8)) (maskRead arg3 X3))) := by
  unfold first; dsimp only []; exact sPieces_congr i _ _ _ _ _ _ _ _ _ _ _ rfl rfl rfl rfl rfl rfl rfl rfl
theorem first_20 (h1 : k0_cond1 i = 1#1) (h2 : ¬ k0_cond2 i = 1#1) : (first (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.2.2.2.2.2.1 = arg20.view.writes (Elt Ideal) X20 (rPieces i (mP (queryC arg15 (queryStore arg4 arg5 arg6 X4 X5 X6)) (keyC arg17 (keyStore arg2 arg7 arg8 arg16 X2 X7 X8)) (maskRead arg3 X3))) := by
  unfold first; dsimp only []; exact rPieces_congr i _ _ _ _ _ _ _ _ _ _ _ rfl rfl rfl rfl rfl rfl rfl rfl
theorem first_21 (h1 : k0_cond1 i = 1#1) (h2 : ¬ k0_cond2 i = 1#1) : (first (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.2.2.2.2.2.2.1 = arg21.view.writes (Elt Ideal) X21 (rPieces i (lP (queryC arg15 (queryStore arg4 arg5 arg6 X4 X5 X6)) (keyC arg17 (keyStore arg2 arg7 arg8 arg16 X2 X7 X8)) (maskRead arg3 X3))) := by
  unfold first; dsimp only []; exact rPieces_congr i _ _ _ _ _ _ _ _ _ _ _ rfl rfl rfl rfl rfl rfl rfl rfl
theorem last_18 (h1 : ¬ k0_cond1 i = 1#1) (h2 : k0_cond2 i = 1#1) : (last (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.2.2.2.1 = arg18.view.writes (Elt Ideal) X18 (vPieces i (valPay arg2 arg7 arg8 arg16 X2 X7 X8)) := by
  unfold last; dsimp only []; exact congrArg (fun p => arg18.view.writes (Elt Ideal) X18 [⟨Rect.unit (k0_off1 i) S1024x1024.size (k0_off1_inb i), p⟩]) rfl
theorem last_19 (h1 : ¬ k0_cond1 i = 1#1) (h2 : k0_cond2 i = 1#1) : (last (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.2.2.2.2.1 = arg19.view.writes (Elt Ideal) X19 (sPieces i (sP (queryR arg15 X15) (keyC arg17 (keyStore arg2 arg7 arg8 arg16 X2 X7 X8)) (maskRead arg3 X3))) := by
  unfold last; dsimp only []; exact sPieces_congr i _ _ _ _ _ _ _ _ _ _ _ rfl rfl rfl rfl rfl rfl rfl rfl
theorem last_20 (h1 : ¬ k0_cond1 i = 1#1) (h2 : k0_cond2 i = 1#1) : (last (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.2.2.2.2.2.1 = arg20.view.writes (Elt Ideal) X20 (rPieces i (mP (queryR arg15 X15) (keyC arg17 (keyStore arg2 arg7 arg8 arg16 X2 X7 X8)) (maskRead arg3 X3))) := by
  unfold last; dsimp only []; exact rPieces_congr i _ _ _ _ _ _ _ _ _ _ _ rfl rfl rfl rfl rfl rfl rfl rfl
theorem last_21 (h1 : ¬ k0_cond1 i = 1#1) (h2 : k0_cond2 i = 1#1) : (last (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.2.2.2.2.2.2.1 = arg21.view.writes (Elt Ideal) X21 (rPieces i (lP (queryR arg15 X15) (keyC arg17 (keyStore arg2 arg7 arg8 arg16 X2 X7 X8)) (maskRead arg3 X3))) := by
  unfold last; dsimp only []; exact rPieces_congr i _ _ _ _ _ _ _ _ _ _ _ rfl rfl rfl rfl rfl rfl rfl rfl

end Cert.KernelIdeal.Head

end
-- ==== Proof.Ends.lean ====
/- What the last block leaves in the two result windows. -/
module

public import proofs.«01_k».proof.Proof.Held
public import proofs.«01_k».proof.Proof.Cases

@[expose] public section

set_option maxRecDepth 16384
set_option maxHeartbeats 1000000

noncomputable section

namespace Cert.KernelIdeal.Head

open Cert.KernelIdeal Cert.KernelIdeal.Gen
open Idealize.ShloMosaic Idealize.ShloMosaic.TcCoe Idealize.SL.Sem

/-- The output projection. -/
def nC (cat : Fin 64 → Fin 1024 → EReal) (w : Fin 1024 → Fin 1024 → EReal) (b : Fin 1024 → EReal) (q : Fin 64) (e : Fin 1024) : EReal :=
  (∑ k, cat q k * w k e) + b e
/-- A row's mean. -/
def nMu (C : Fin 1024 → EReal) : EReal := Ideal.div (∑ e, C e) (Ideal.ofBits .f32 0x44800000#32)
/-- A row's variance. -/
def nVar (C : Fin 1024 → EReal) : EReal := Ideal.div (∑ e, (C e - nMu C) * (C e - nMu C)) (Ideal.ofBits .f32 0x44800000#32)
/-- A normalised row. -/
def nOut (C g b : Fin 1024 → EReal) (e : Fin 1024) : EReal :=
  (C e - nMu C) * Ideal.rsqrt (nVar C + Ideal.ofBits .f32 0x3727C5AC#32) * g e + b e

section Norm
variable {v254 : Vec Ideal S64x1024 .f32} {v256 : Vec Ideal S1024x1024 .bf16} {v259 v279 v283 : Vec Ideal S1x1024 .f32}
  {cat : Fin 64 → Fin 1024 → EReal} {w : Fin 1024 → Fin 1024 → EReal} {b g β : Fin 1024 → EReal}
  (hcat : ∀ q k, v254 (ix2 q k) = cat q k) (hw : ∀ k e, v256 (ix2 k e) = w k e) (hb : ∀ e, v259 (ix2 0 e) = b e)
  (hg : ∀ e, v279 (ix2 0 e) = g e) (hβ : ∀ e, v283 (ix2 0 e) = β e)
include hcat hw hb hg hβ
theorem norm_apply (z : Fin 1) (q : Fin 64) (e : Fin 1024) : k0_pay2 (F := Ideal) (k0_pay48 (F := Ideal) v254 v256 v259 v279 v283) (ix3 z q e) = nOut (nC cat w b q) g β e := by
  pointwise [k0_pay2, k0_pay48, nOut, nC, nMu, nVar, hcat, hw, hb, hg, hβ]
end Norm

theorem pay50_apply (x) : k0_pay50 (F := Ideal) x = 0 := Ideal.ofBits_zero_f32

variable (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S64x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x2048 .bf16) (harg7 : arg7.IsWhole) (arg8 : Memref sig .tc .vmem S1x2048 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x64x1024 .f32) (harg13 : arg13.IsWhole) (arg14 : Memref sig .tc .vmem S1x64x8192 .f32) (harg14 : arg14.IsWhole) (arg15 : Memref sig .tc .vmem S64x1024 .bf16) (harg15 : arg15.IsWhole) (arg16 : Memref sig .tc .vmem S1024x1024 .bf16) (harg16 : arg16.IsWhole) (arg17 : Memref sig .tc .vmem S1024x1024 .bf16) (harg17 : arg17.IsWhole) (arg18 : Memref sig .tc .vmem S8192x1024 .bf16) (harg18 : arg18.IsWhole) (arg19 : Memref sig .tc .vmem S8x64x8192 .bf16) (harg19 : arg19.IsWhole) (arg20 : Memref sig .tc .vmem S64x64x1 .f32) (harg20 : arg20.IsWhole) (arg21 : Memref sig .tc .vmem S64x64x1 .f32) (harg21 : arg21.IsWhole) (arg22 : Memref sig .tc .vmem S64x1024 .f32) (harg22 : arg22.IsWhole)
  (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (X17 : BufTy.Contents (Elt Ideal) arg17.view.ty) (X18 : BufTy.Contents (Elt Ideal) arg18.view.ty) (X19 : BufTy.Contents (Elt Ideal) arg19.view.ty) (X20 : BufTy.Contents (Elt Ideal) arg20.view.ty) (X21 : BufTy.Contents (Elt Ideal) arg21.view.ty) (X22 : BufTy.Contents (Elt Ideal) arg22.view.ty)
variable (h1 : ¬ k0_cond1 i = 1#1) (h2 : k0_cond2 i = 1#1)

theorem last_14 : (last (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.1 = (held (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h2 (last (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.2.2.2.1 (last (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.2.2.2.2.1 (last (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.2.2.2.2.2.1 (last (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.2.2.2.2.2.2.1 X14 X22 k0_t1_loop.trips).1 := by
  unfold last; dsimp only []

theorem last_13 : (last (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).1 = arg13.view.writes (Elt Ideal) X13 [⟨Rect.unit (s := S1x64x1024) ![0, 0, 0] S1x64x1024.size inb_S1x64x1024_S1x64x1024_0_0_0,
    k0_pay2 (F := Ideal) (k0_pay48 (F := Ideal) (arg22.view.readAt (Elt Ideal) (Rect.unit (s := S64x1024) ![0, 0] S64x1024.size inb_S64x1024_S64x1024_0_0).toLoadRect (held (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h2 (last (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.2.2.2.1 (last (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.2.2.2.2.1 (last (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.2.2.2.2.2.1 (last (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.2.2.2.2.2.2.1 X14 X22 k0_t1_loop.trips).2) (arg9.view.readAt (Elt Ideal) (Rect.unit (s := S1024x1024) ![0, 0] S1024x1024.size inb_S1024x1024_S1024x1024_0_0).toLoadRect X9) (arg10.view.readAt (Elt Ideal) (Rect.unit (s := S1x1024) ![0, 0] S1x1024.size inb_S1x1024_S1x1024_0_0).toLoadRect X10) (arg11.view.readAt (Elt Ideal) (Rect.unit (s := S1x1024) ![0, 0] S1x1024.size inb_S1x1024_S1x1024_0_0).toLoadRect X11) (arg12.view.readAt (Elt Ideal) (Rect.unit (s := S1x1024) ![0, 0] S1x1024.size inb_S1x1024_S1x1024_0_0).toLoadRect X12))⟩] := by
  unfold last; dsimp only []
  exact congrArg (fun p => arg13.view.writes (Elt Ideal) X13 [⟨Rect.unit (s := S1x64x1024) ![0, 0, 0] S1x64x1024.size inb_S1x64x1024_S1x64x1024_0_0_0, k0_pay2 (F := Ideal) p⟩]) rfl

end Cert.KernelIdeal.Head

end
-- ==== Proof.Step.lean ====
/- The blocks of one batch, one after the other: what the scratch holds before each, and what the last one leaves. -/
module

public import proofs.«01_k».proof.Proof.Ends

@[expose] public section

set_option maxRecDepth 16384
set_option maxHeartbeats 1000000

noncomputable section

namespace Cert.KernelIdeal.Head

open Cert.KernelIdeal Cert.KernelIdeal.Gen
open Idealize.ShloMosaic Idealize.ShloMosaic.TcCoe Idealize.SL.Sem

/-- The operands one batch is computed from. -/
structure Arr where
  x : Fin 8192 → Fin 1024 → EReal
  msk : Fin 8192 → EReal
  qi : Fin 64 → Fin 1024 → EReal
  wq : Fin 1024 → Fin 1024 → EReal
  bq : Fin 1024 → EReal
  wkv : Fin 1024 → Fin 2048 → EReal
  bkv : Fin 2048 → EReal
  wo : Fin 1024 → Fin 1024 → EReal
  bo : Fin 1024 → EReal
  g : Fin 1024 → EReal
  β : Fin 1024 → EReal

/-- The scaled queries. -/
def qs (A : Arr) (q : Fin 64) (e : Fin 1024) : EReal := ((∑ k, A.qi q k * A.wq k e) + A.bq e) * Ideal.ofBits .f32 0x3DB504F3#32
/-- The keys. -/
def ks (A : Arr) (n : Fin 8192) (e : Fin 1024) : EReal := (∑ k, A.x n k * A.wkv k ⟨e.val, by omega⟩) + A.bkv ⟨e.val, by omega⟩
/-- The values. -/
def vs (A : Arr) (n : Fin 8192) (e : Fin 1024) : EReal := (∑ k, A.x n k * A.wkv k ⟨1024 + e.val, by omega⟩) + A.bkv ⟨1024 + e.val, by omega⟩
/-- The exponentials of block `j`. -/
def eP (A : Arr) (h : Fin 8) (q : Fin 64) (j : Fin 8) (r : Fin 1024) : EReal := bP (qs A) (fun r => ks A (at8 j r)) (fun r => A.msk (at8 j r)) h q r
/-- The largest score of block `j`. -/
def eM (A : Arr) (h : Fin 8) (q : Fin 64) (j : Fin 8) : EReal := bM (qs A) (fun r => ks A (at8 j r)) (fun r => A.msk (at8 j r)) h q
/-- The sum of block `j`'s exponentials. -/
def eL (A : Arr) (h : Fin 8) (q : Fin 64) (j : Fin 8) : EReal := bL (qs A) (fun r => ks A (at8 j r)) (fun r => A.msk (at8 j r)) h q
/-- The attention averaged over the heads. -/
def avg (A : Arr) (q : Fin 64) (j : Fin 8) (r : Fin 1024) : EReal := ∑ h : Fin 8, att (eP A) (eM A) (eL A) h q j r * Ideal.ofBits .f32 0x3E000000#32
/-- The heads' results side by side. -/
def catv (A : Arr) (q : Fin 64) (e : Fin 1024) : EReal :=
  fS (fun j => ∑ r : Fin 1024, att (eP A) (eM A) (eL A) ⟨e.val / 128, by omega⟩ q j r * vs A (at8 j r) e)
/-- The normalised result. -/
def out (A : Arr) (q : Fin 64) (e : Fin 1024) : EReal := nOut (nC (catv A) A.wo A.bo q) A.g A.β e

/-- The windows hold block `j`'s operands. -/
structure Wins (A : Arr) (j : Fin 8) (b2 : S1x1024x1024.Idx → EReal) (b3 : S1x1x1024.Idx → EReal) (b4 : S64x1024.Idx → EReal) (b5 : S1024x1024.Idx → EReal) (b6 : S1x1024.Idx → EReal) (b7 : S1024x2048.Idx → EReal) (b8 : S1x2048.Idx → EReal) (b9 : S1024x1024.Idx → EReal) (b10 : S1x1024.Idx → EReal) (b11 : S1x1024.Idx → EReal) (b12 : S1x1024.Idx → EReal) : Prop where
  w2 : ∀ r k : Fin 1024, b2 (ix3 0 r k) = A.x (at8 j r) k
  w3 : ∀ r : Fin 1024, b3 (ix3 0 0 r) = A.msk (at8 j r)
  w4 : ∀ (q : Fin 64) (k : Fin 1024), b4 (ix2 q k) = A.qi q k
  w5 : ∀ k e : Fin 1024, b5 (ix2 k e) = A.wq k e
  w6 : ∀ e : Fin 1024, b6 (ix2 0 e) = A.bq e
  w7 : ∀ (k : Fin 1024) (e : Fin 2048), b7 (ix2 k e) = A.wkv k e
  w8 : ∀ e : Fin 2048, b8 (ix2 0 e) = A.bkv e
  w9 : ∀ k e : Fin 1024, b9 (ix2 k e) = A.wo k e
  w10 : ∀ e : Fin 1024, b10 (ix2 0 e) = A.bo e
  w11 : ∀ e : Fin 1024, b11 (ix2 0 e) = A.g e
  w12 : ∀ e : Fin 1024, b12 (ix2 0 e) = A.β e

theorem cat_col (A : Arr) (q : Fin 64) (h : Fin 8) (d : Fin 128) :
    catv A q (hd h d) = fS (fun j => ∑ r : Fin 1024, att (eP A) (eM A) (eL A) h q j r * vs A (at8 j r) (hd h d)) := by
  have e : (⟨(hd h d).val / 128, by have := (hd h d).isLt; omega⟩ : Fin 8) = h := Fin.ext (by show (128 * h.val + d.val) / 128 = h.val; omega)
  unfold catv
  rw [e]

theorem hd_surj (e : Fin 1024) : ∃ (h : Fin 8) (d : Fin 128), e = hd h d :=
  ⟨⟨e.val / 128, by omega⟩, ⟨e.val % 128, by omega⟩, Fin.ext (by show e.val = 128 * (e.val / 128) + e.val % 128; omega)⟩
theorem at8_surj (n : Fin 8192) : ∃ (j : Fin 8) (r : Fin 1024), n = at8 j r :=
  ⟨⟨n.val / 1024, by omega⟩, ⟨n.val % 1024, by omega⟩, Fin.ext (by show n.val = 1024 * (n.val / 1024) + n.val % 1024; omega)⟩

theorem norm_full (a13 : V2 S1x64x1024 .f32) (a22 : V2 S64x1024 .f32) (a9 : V2 S1024x1024 .bf16) (a10 a11 a12 : V2 S1x1024 .f32)
    (X13 : BufTy.Contents (Elt Ideal) a13.view.ty) (X22 : BufTy.Contents (Elt Ideal) a22.view.ty) (X9 : BufTy.Contents (Elt Ideal) a9.view.ty) (X10 : BufTy.Contents (Elt Ideal) a10.view.ty)
    (X11 : BufTy.Contents (Elt Ideal) a11.view.ty) (X12 : BufTy.Contents (Elt Ideal) a12.view.ty)
    {cat : Fin 64 → Fin 1024 → EReal} {w : Fin 1024 → Fin 1024 → EReal} {b g β : Fin 1024 → EReal}
    (hcat : ∀ q k, a22.view.read (Elt Ideal) X22 (ix2 q k) = cat q k) (hw : ∀ k e, a9.view.read (Elt Ideal) X9 (ix2 k e) = w k e) (hb : ∀ e, a10.view.read (Elt Ideal) X10 (ix2 0 e) = b e)
    (hg : ∀ e, a11.view.read (Elt Ideal) X11 (ix2 0 e) = g e) (hβ : ∀ e, a12.view.read (Elt Ideal) X12 (ix2 0 e) = β e) (q : Fin 64) (e : Fin 1024) :
    a13.view.read (Elt Ideal) (a13.view.writes (Elt Ideal) X13 [⟨Rect.unit (s := S1x64x1024) ![0, 0, 0] S1x64x1024.size inb_S1x64x1024_S1x64x1024_0_0_0,
      k0_pay2 (F := Ideal) (k0_pay48 (F := Ideal) (a22.view.readAt (Elt Ideal) (Rect.unit (s := S64x1024) ![0, 0] S64x1024.size inb_S64x1024_S64x1024_0_0).toLoadRect X22)
        (a9.view.readAt (Elt Ideal) (Rect.unit (s := S1024x1024) ![0, 0] S1024x1024.size inb_S1024x1024_S1024x1024_0_0).toLoadRect X9)
        (a10.view.readAt (Elt Ideal) (Rect.unit (s := S1x1024) ![0, 0] S1x1024.size inb_S1x1024_S1x1024_0_0).toLoadRect X10)
        (a11.view.readAt (Elt Ideal) (Rect.unit (s := S1x1024) ![0, 0] S1x1024.size inb_S1x1024_S1x1024_0_0).toLoadRect X11)
        (a12.view.readAt (Elt Ideal) (Rect.unit (s := S1x1024) ![0, 0] S1x1024.size inb_S1x1024_S1x1024_0_0).toLoadRect X12))⟩]) (ix3 0 q e) = nOut (nC cat w b q) g β e := by
  refine (congrFun (View.read_writes_full a13.view _ _ _ _) _).trans ?_
  rw [View.readAt_full, View.readAt_full, View.readAt_full, View.readAt_full, View.readAt_full]
  exact norm_apply hcat hw hb hg hβ 0 q e

theorem cols_all {Y : S64x1024.Idx → EReal} {C : Fin 64 → Fin 1024 → EReal} (H : ∀ q h d, Y (ix2 q (hd h d)) = C q (hd h d)) (q : Fin 64) (k : Fin 1024) : Y (ix2 q k) = C q k := by
  obtain ⟨h, d, rfl⟩ := hd_surj k
  exact H q h d

theorem sum8 (f : Fin 8 → EReal) {n : ℕ} (e : n = 8) : ∑ h : Fin n, f (h.castLE e.le) = ∑ h : Fin 8, f h := by
  subst e; rfl

theorem emb_q (h : Fin 8) {inb : ∀ a, (![0, 128 * h.val] : Fin 2 → ℕ) a + S64x128.size a ≤ S64x1024.size a} (q : Fin 64) (d : Fin 128) : (Rect.unit (s := S64x1024) ![0, 128 * h.val] S64x128.size inb).emb (ix2 q d) = ix2 q (hd h d) := cat_emb inb h rfl q d
theorem emb_k (h : Fin 8) {inb : ∀ a, (![0, 128 * h.val] : Fin 2 → ℕ) a + S1024x128.size a ≤ S1024x1024.size a} (r : Fin 1024) (d : Fin 128) : (Rect.unit (s := S1024x1024) ![0, 128 * h.val] S1024x128.size inb).emb (ix2 r d) = ix2 r (hd h d) := by
  funext a; apply Fin.ext
  match a with
  | ⟨0, _⟩ => show 0 + 1 * r.val = r.val; omega
  | ⟨1, _⟩ => show 128 * h.val + 1 * d.val = 128 * h.val + d.val; omega

variable (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S64x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x2048 .bf16) (harg7 : arg7.IsWhole) (arg8 : Memref sig .tc .vmem S1x2048 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x64x1024 .f32) (harg13 : arg13.IsWhole) (arg14 : Memref sig .tc .vmem S1x64x8192 .f32) (harg14 : arg14.IsWhole) (arg15 : Memref sig .tc .vmem S64x1024 .bf16) (harg15 : arg15.IsWhole) (arg16 : Memref sig .tc .vmem S1024x1024 .bf16) (harg16 : arg16.IsWhole) (arg17 : Memref sig .tc .vmem S1024x1024 .bf16) (harg17 : arg17.IsWhole) (arg18 : Memref sig .tc .vmem S8192x1024 .bf16) (harg18 : arg18.IsWhole) (arg19 : Memref sig .tc .vmem S8x64x8192 .bf16) (harg19 : arg19.IsWhole) (arg20 : Memref sig .tc .vmem S64x64x1 .f32) (harg20 : arg20.IsWhole) (arg21 : Memref sig .tc .vmem S64x64x1 .f32) (harg21 : arg21.IsWhole) (arg22 : Memref sig .tc .vmem S64x1024 .f32) (harg22 : arg22.IsWhole)
  (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (X17 : BufTy.Contents (Elt Ideal) arg17.view.ty) (X18 : BufTy.Contents (Elt Ideal) arg18.view.ty) (X19 : BufTy.Contents (Elt Ideal) arg19.view.ty) (X20 : BufTy.Contents (Elt Ideal) arg20.view.ty) (X21 : BufTy.Contents (Elt Ideal) arg21.view.ty) (X22 : BufTy.Contents (Elt Ideal) arg22.view.ty)
variable (A : Arr) (j : Fin 8) (hj : (i 1).val = j.val)
  (W : Wins A j (arg2.view.read (Elt Ideal) X2) (arg3.view.read (Elt Ideal) X3) (arg4.view.read (Elt Ideal) X4) (arg5.view.read (Elt Ideal) X5) (arg6.view.read (Elt Ideal) X6) (arg7.view.read (Elt Ideal) X7) (arg8.view.read (Elt Ideal) X8) (arg9.view.read (Elt Ideal) X9) (arg10.view.read (Elt Ideal) X10) (arg11.view.read (Elt Ideal) X11) (arg12.view.read (Elt Ideal) X12))

include W in
theorem keyHead (h : Fin 8) (r : Fin 1024) (d : Fin 128) : keyC arg17 (keyStore arg2 arg7 arg8 arg16 X2 X7 X8) h (ix2 r d) = ks A (at8 j r) (hd h d) := by
  refine (congrArg (arg17.view.read (Elt Ideal) (arg17.view.writes (Elt Ideal) arg17.view.junk (keyStore arg2 arg7 arg8 arg16 X2 X7 X8))) (emb_k (inb := inb_k h) h r d)).trans ?_
  refine (congrFun (View.read_writes_full arg17.view _ _ _ _) _).trans ?_
  rw [xBack, View.readCov_full, fullX, fullKV, fullBKV, View.readAt_full, View.readAt_full, View.readAt_full]
  exact keys_apply (w := A.wkv) (b := A.bkv) (xb := fun r k => A.x (at8 j r) k) W.w2 W.w7 W.w8 r (hd h d)
include W in
theorem valBlock (r e : Fin 1024) : valPay arg2 arg7 arg8 arg16 X2 X7 X8 (ix2 r e) = vs A (at8 j r) e := by
  rw [valPay, xBack, View.readCov_full, fullX, fullKV, fullBKV, View.readAt_full, View.readAt_full, View.readAt_full]
  exact values_apply (w := A.wkv) (b := A.bkv) (xb := fun r k => A.x (at8 j r) k) W.w2 W.w7 W.w8 r e
include W in
theorem queryFull (f : BufTy.Contents (Elt Ideal) arg15.view.ty) (q : Fin 64) (e : Fin 1024) :
    arg15.view.read (Elt Ideal) (arg15.view.writes (Elt Ideal) f (queryStore arg4 arg5 arg6 X4 X5 X6)) (ix2 q e) = qs A q e := by
  refine (congrFun (View.read_writes_full arg15.view _ _ _ _) _).trans ?_
  rw [fullQ, fullW, fullB, View.readAt_full, View.readAt_full, View.readAt_full]
  exact queries_apply (a := A.qi) (w := A.wq) (b := A.bq) W.w4 W.w5 W.w6 q e
include W in
theorem queryHeadC (h : Fin 8) (q : Fin 64) (d : Fin 128) : queryC arg15 (queryStore arg4 arg5 arg6 X4 X5 X6) h (ix2 q d) = qs A q (hd h d) :=
  (congrArg (arg15.view.read (Elt Ideal) (arg15.view.writes (Elt Ideal) arg15.view.junk (queryStore arg4 arg5 arg6 X4 X5 X6))) (emb_q (inb := inb_q h) h q d)).trans
    (queryFull arg2 arg3 arg4 arg5 arg6 arg7 arg8 arg9 arg10 arg11 arg12 arg15 X2 X3 X4 X5 X6 X7 X8 X9 X10 X11 X12 A j W _ q (hd h d))
theorem queryHeadR (hq : ∀ q e, arg15.view.read (Elt Ideal) X15 (ix2 q e) = qs A q e) (h : Fin 8) (q : Fin 64) (d : Fin 128) : queryR arg15 X15 h (ix2 q d) = qs A q (hd h d) :=
  (congrArg (arg15.view.read (Elt Ideal) X15) (emb_q (inb := inb_q h) h q d)).trans (hq q (hd h d))
include W in
theorem maskHead (r : Fin 1024) : maskRead arg3 X3 (ix3 0 0 r) = A.msk (at8 j r) := by
  rw [maskRead, View.readAt_full]
  exact W.w3 r

/-- The scratch holds what the first `n` blocks stored. -/
structure Kept (A : Arr) (n : ℕ) (b18 : S8192x1024.Idx → EReal) (b19 : S8x64x8192.Idx → EReal) (b20 b21 : S64x64x1.Idx → EReal) : Prop where
  v : ∀ j : Fin 8, j.val < n → ∀ r e : Fin 1024, b18 (ix2 (at8 j r) e) = vs A (at8 j r) e
  s : ∀ j : Fin 8, j.val < n → ∀ (h : Fin 8) (q : Fin 64) (r : Fin 1024), b19 (ix3 h q (at8 j r)) = eP A h q j r
  m : ∀ j : Fin 8, j.val < n → ∀ (h : Fin 8) (q : Fin 64), b20 (ix3 (row8 h j) q 0) = eM A h q j
  l : ∀ j : Fin 8, j.val < n → ∀ (h : Fin 8) (q : Fin 64), b21 (ix3 (row8 h j) q 0) = eL A h q j

theorem kept_zero (A : Arr) (b18 b19 b20 b21) : Kept A 0 b18 b19 b20 b21 :=
  ⟨fun _ h => by omega, fun _ h => by omega, fun _ h => by omega, fun _ h => by omega⟩

theorem kept_congr {A : Arr} {n : ℕ} {b18 b18' b19 b19' b20 b20' b21 b21'} (e18 : b18 = b18') (e19 : b19 = b19') (e20 : b20 = b20') (e21 : b21 = b21')
    (K : Kept A n b18' b19' b20' b21') : Kept A n b18 b19 b20 b21 := by
  subst e18 e19 e20 e21; exact K

include hj W in
theorem kept_next (qh : Fin 8 → FVec Ideal S64x128 .bf16) (hq : ∀ (h : Fin 8) (q : Fin 64) (d : Fin 128), qh h (ix2 q d) = qs A q (hd h d))
    (K : Kept A j.val (arg18.view.read (Elt Ideal) X18) (arg19.view.read (Elt Ideal) X19) (arg20.view.read (Elt Ideal) X20) (arg21.view.read (Elt Ideal) X21)) :
    Kept A (j.val + 1) (arg18.view.read (Elt Ideal) (arg18.view.writes (Elt Ideal) X18 (vPieces i (valPay arg2 arg7 arg8 arg16 X2 X7 X8))))
      (arg19.view.read (Elt Ideal) (arg19.view.writes (Elt Ideal) X19 (sPieces i (sP qh (keyC arg17 (keyStore arg2 arg7 arg8 arg16 X2 X7 X8)) (maskRead arg3 X3)))))
      (arg20.view.read (Elt Ideal) (arg20.view.writes (Elt Ideal) X20 (rPieces i (mP qh (keyC arg17 (keyStore arg2 arg7 arg8 arg16 X2 X7 X8)) (maskRead arg3 X3)))))
      (arg21.view.read (Elt Ideal) (arg21.view.writes (Elt Ideal) X21 (rPieces i (lP qh (keyC arg17 (keyStore arg2 arg7 arg8 arg16 X2 X7 X8)) (maskRead arg3 X3))))) := by
  have kH := keyHead arg2 arg3 arg4 arg5 arg6 arg7 arg8 arg9 arg10 arg11 arg12 arg16 arg17 X2 X3 X4 X5 X6 X7 X8 X9 X10 X11 X12 A j W
  have mH := maskHead arg2 arg3 arg4 arg5 arg6 arg7 arg8 arg9 arg10 arg11 arg12 X2 X3 X4 X5 X6 X7 X8 X9 X10 X11 X12 A j W
  have vH := valBlock arg2 arg3 arg4 arg5 arg6 arg7 arg8 arg9 arg10 arg11 arg12 arg16 X2 X3 X4 X5 X6 X7 X8 X9 X10 X11 X12 A j W
  refine ⟨fun j' hlt => ?_, fun j' hlt => ?_, fun j' hlt => ?_, fun j' hlt => ?_⟩ <;> by_cases e : j'.val = j.val
  · obtain rfl : j' = j := Fin.ext e
    exact fun r e => (v_new i j' hj arg18.view X18 _ r e).trans (vH r e)
  · exact fun r e' => (v_old i j hj arg18.view X18 _ j' e r e').trans (K.v j' (by omega) r e')
  · obtain rfl : j' = j := Fin.ext e
    exact fun h q r => s_new i j' hj arg19.view X19 (G := fun h q r => eP A h q j' r) (fun h z q r => pPiece_apply (hq h) (kH h) mH z q r) h q r
  · exact fun h q r => (s_old i j hj arg19.view X19 _ h j' e q r).trans (K.s j' (by omega) h q r)
  · obtain rfl : j' = j := Fin.ext e
    exact fun h q => r_new i j' hj arg20.view X20 (G := fun h q => eM A h q j') (fun h z q u => mPiece_apply (hq h) (kH h) mH z q u) h q
  · exact fun h q => (r_old i j hj arg20.view X20 _ h j' e q).trans (K.m j' (by omega) h q)
  · obtain rfl : j' = j := Fin.ext e
    exact fun h q => r_new i j' hj arg21.view X21 (G := fun h q => eL A h q j') (fun h z q u => lPiece_apply (hq h) (kH h) mH z q u) h q
  · exact fun h q => (r_old i j hj arg21.view X21 _ h j' e q).trans (K.l j' (by omega) h q)

include hj W in
theorem middle_kept (h1 : ¬ k0_cond1 i = 1#1) (h2 : ¬ k0_cond2 i = 1#1)
    (hq : ∀ q e, arg15.view.read (Elt Ideal) X15 (ix2 q e) = qs A q e)
    (K : Kept A j.val (arg18.view.read (Elt Ideal) X18) (arg19.view.read (Elt Ideal) X19) (arg20.view.read (Elt Ideal) X20) (arg21.view.read (Elt Ideal) X21)) :
    Kept A (j.val + 1) (arg18.view.read (Elt Ideal) (middle (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.2.1) (arg19.view.read (Elt Ideal) (middle (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.2.2.1) (arg20.view.read (Elt Ideal) (middle (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.2.2.2.1) (arg21.view.read (Elt Ideal) (middle (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.2.2.2.2.1) := by
  refine kept_congr (congrArg (arg18.view.read (Elt Ideal)) (middle_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2)) (congrArg (arg19.view.read (Elt Ideal)) (middle_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2)) (congrArg (arg20.view.read (Elt Ideal)) (middle_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2)) (congrArg (arg21.view.read (Elt Ideal)) (middle_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2)) ?_
  exact kept_next i arg2 arg3 arg4 arg5 arg6 arg7 arg8 arg9 arg10 arg11 arg12 arg16 arg17 arg18 arg19 arg20 arg21 X2 X3 X4 X5 X6 X7 X8 X9 X10 X11 X12 X18 X19 X20 X21 A j hj W _ (queryHeadR arg15 X15 A hq) K

include hj W in
theorem first_kept (h1 : k0_cond1 i = 1#1) (h2 : ¬ k0_cond2 i = 1#1)
    (K : Kept A j.val (arg18.view.read (Elt Ideal) X18) (arg19.view.read (Elt Ideal) X19) (arg20.view.read (Elt Ideal) X20) (arg21.view.read (Elt Ideal) X21)) :
    Kept A (j.val + 1) (arg18.view.read (Elt Ideal) (first (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.2.2.2.1) (arg19.view.read (Elt Ideal) (first (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.2.2.2.2.1) (arg20.view.read (Elt Ideal) (first (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.2.2.2.2.2.1) (arg21.view.read (Elt Ideal) (first (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.2.2.2.2.2.2.1) := by
  refine kept_congr (congrArg (arg18.view.read (Elt Ideal)) (first_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2)) (congrArg (arg19.view.read (Elt Ideal)) (first_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2)) (congrArg (arg20.view.read (Elt Ideal)) (first_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2)) (congrArg (arg21.view.read (Elt Ideal)) (first_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2)) ?_
  exact kept_next i arg2 arg3 arg4 arg5 arg6 arg7 arg8 arg9 arg10 arg11 arg12 arg16 arg17 arg18 arg19 arg20 arg21 X2 X3 X4 X5 X6 X7 X8 X9 X10 X11 X12 X18 X19 X20 X21 A j hj W _ (queryHeadC arg2 arg3 arg4 arg5 arg6 arg7 arg8 arg9 arg10 arg11 arg12 arg15 X2 X3 X4 X5 X6 X7 X8 X9 X10 X11 X12 A j W) K

include hj W in
theorem last_kept (h1 : ¬ k0_cond1 i = 1#1) (h2 : k0_cond2 i = 1#1)
    (hq : ∀ q e, arg15.view.read (Elt Ideal) X15 (ix2 q e) = qs A q e)
    (K : Kept A j.val (arg18.view.read (Elt Ideal) X18) (arg19.view.read (Elt Ideal) X19) (arg20.view.read (Elt Ideal) X20) (arg21.view.read (Elt Ideal) X21)) :
    Kept A (j.val + 1) (arg18.view.read (Elt Ideal) (last (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.2.2.2.1) (arg19.view.read (Elt Ideal) (last (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.2.2.2.2.1) (arg20.view.read (Elt Ideal) (last (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.2.2.2.2.2.1) (arg21.view.read (Elt Ideal) (last (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.2.2.2.2.2.2.1) := by
  refine kept_congr (congrArg (arg18.view.read (Elt Ideal)) (last_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2)) (congrArg (arg19.view.read (Elt Ideal)) (last_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2)) (congrArg (arg20.view.read (Elt Ideal)) (last_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2)) (congrArg (arg21.view.read (Elt Ideal)) (last_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2)) ?_
  exact kept_next i arg2 arg3 arg4 arg5 arg6 arg7 arg8 arg9 arg10 arg11 arg12 arg16 arg17 arg18 arg19 arg20 arg21 X2 X3 X4 X5 X6 X7 X8 X9 X10 X11 X12 X18 X19 X20 X21 A j hj W _ (queryHeadR arg15 X15 A hq) K

section Last
variable (h1 : ¬ k0_cond1 i = 1#1) (h2 : k0_cond2 i = 1#1)
  (K : Kept A 8 (arg18.view.read (Elt Ideal) (last (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.2.2.2.1) (arg19.view.read (Elt Ideal) (last (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.2.2.2.2.1) (arg20.view.read (Elt Ideal) (last (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.2.2.2.2.2.1) (arg21.view.read (Elt Ideal) (last (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.2.2.2.2.2.2.1))
include K

theorem last_avg (h0 : ∀ q j r, arg14.view.read (Elt Ideal) X14 (ix3 0 q (at8 j r)) = 0) (q : Fin 64) (j : Fin 8) (r : Fin 1024) :
    arg14.view.read (Elt Ideal) (last (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.1 (ix3 0 q (at8 j r)) = avg A q j r := by
  refine (congrArg (fun f => arg14.view.read (Elt Ideal) f (ix3 0 q (at8 j r))) (last_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2)).trans ?_
  exact (held_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h2 (last (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.2.2.2.1 (last (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.2.2.2.2.1 (last (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.2.2.2.2.2.1 (last (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.2.2.2.2.2.2.1 X14 X22 (P := eP A) (M := eM A) (L := eL A) (fun h q j r => K.s j j.isLt h q r) (fun h q j => K.m j j.isLt h q) (fun h q j => K.l j j.isLt h q) h0 k0_t1_loop.trips trips8.le q j r).trans (sum8 (fun h => att (eP A) (eM A) (eL A) h q j r * Ideal.ofBits .f32 0x3E000000#32) trips8)

include W in
theorem last_out (q : Fin 64) (e : Fin 1024) : arg13.view.read (Elt Ideal) (last (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).1 (ix3 0 q e) = out A q e := by
  refine (congrArg (fun f => arg13.view.read (Elt Ideal) f (ix3 0 q e)) (last_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2)).trans ?_
  refine norm_full arg13 arg22 arg9 arg10 arg11 arg12 X13 _ X9 X10 X11 X12 (cols_all fun q h d => ?_) W.w9 W.w10 W.w11 W.w12 q e
  refine Eq.trans ?_ (cat_col A q h d).symm
  exact (held_22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h2 (last (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.2.2.2.1 (last (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.2.2.2.2.1 (last (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.2.2.2.2.2.1 (last (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X2 X3 X4 X5 X6 X7 X8 X9 X10 X11 X12 X13 X14 X15 X16 X17 X18 X19 X20 X21 X22 h1 h2).2.2.2.2.2.2.2.1 X14 X22 (W := vs A) (P := eP A) (M := eM A) (L := eL A) (fun j r e => K.v j j.isLt r e) (fun h q j r => K.s j j.isLt h q r) (fun h q j => K.m j j.isLt h q) (fun h q j => K.l j j.isLt h q) k0_t1_loop.trips trips8.le h (h.isLt.trans_eq trips8.symm) q d)
end Last

end Cert.KernelIdeal.Head

end
-- ==== Proof.Operands.lean ====
/- The operand windows' blocks, as entries of the argument arrays. -/
module

public import proofs.«01_k».proof.Proof.Step
public import proofs.«01_k».proof.Proof.Gen.KernelIdeal.Frame
public import Idealize.ShloMosaic.Lib.Claim

@[expose] public section

set_option maxRecDepth 16384
set_option maxHeartbeats 1000000

noncomputable section

namespace Cert.KernelIdeal.Head

open Cert.KernelIdeal Cert.KernelIdeal.Gen
open Idealize.ShloMosaic Idealize.ShloMosaic.TcCoe Idealize.SL.Sem Idealize.ShloMosaic.Pipeline

theorem idxs : ∀ t : Fin grid0.N, win0_0.index t = ![t.val / 8, t.val % 8, 0] ∧ win0_1.index t = ![t.val, 0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0]
    ∧ win0_11.index t = ![t.val / 8, 0, 0] ∧ win0_12.index t = ![t.val / 8, 0, 0] := by decide +kernel

theorem bit_real : ∀ b : BitVec 1, (FloatOps.uitofp (F := Ideal) .f32 b : EReal) = if b = 1#1 then (1 : EReal) else 0 := by
  intro b
  have h : b = 0#1 ∨ b = 1#1 := by revert b; decide
  rcases h with rfl | rfl
  · simp [FloatOps.uitofp]
  · simp [FloatOps.uitofp]

variable (m : (ℓ : Loc nD τ sig) → Buf (Elt Ideal) ℓ) (c : Dev nD) (t : Fin cfg0.N)

theorem tlt : t.val < 128 := t.isLt

theorem blk0 (r k : Fin 1024) : iblk m c 0 t (ix3 0 r k) = m ((c : Thread nD τ).loc main_arg0) (ix3 ⟨t.val / 8 % 16, Nat.mod_lt _ (by decide)⟩ (at8 ⟨t.val % 8, Nat.mod_lt _ (by decide)⟩ r) k) := by
  have := tlt t
  blk_ext [iblk, V, idxs t, at8]
theorem blk1 (r : Fin 1024) : iblk m c 1 t (ix3 0 0 r) = if (m ((c : Thread nD τ).loc main_arg1) (ix2 ⟨t.val / 8 % 16, Nat.mod_lt _ (by decide)⟩ (at8 ⟨t.val % 8, Nat.mod_lt _ (by decide)⟩ r)) : BitVec 1) = 1#1 then (1 : EReal) else 0 := by
  have := tlt t
  blk_simp [iblk, idxs t]
  entry_read
  pointwise
  refine (bit_real _).trans (congrArg (fun b : BitVec 1 => if b = 1#1 then (1 : EReal) else 0) ?_)
  blk_ext [idxs t, at8]
theorem blk2 (q : Fin 64) (k : Fin 1024) : iblk m c 2 t (ix2 q k) = m ((c : Thread nD τ).loc main_arg2) (ix2 q k) := by
  blk_simp [iblk, idxs t]
  entry_read
  pointwise
  blk_ext [idxs t]
theorem blk3 (k e : Fin 1024) : iblk m c 3 t (ix2 k e) = m ((c : Thread nD τ).loc main_arg3) (ix2 k e) := by
  blk_simp [iblk, idxs t]
  entry_read
  pointwise
  blk_ext [idxs t]
theorem blk4 (e : Fin 1024) : iblk m c 4 t (ix2 0 e) = m ((c : Thread nD τ).loc main_arg4) (ix1 e) := by
  blk_simp [iblk, idxs t]
  entry_read
  pointwise
  blk_ext [idxs t]
theorem blk7 (k e : Fin 1024) : iblk m c 7 t (ix2 k e) = m ((c : Thread nD τ).loc main_arg9) (ix2 k e) := by
  blk_simp [iblk, idxs t]
  entry_read
  pointwise
  blk_ext [idxs t]
theorem blk8 (e : Fin 1024) : iblk m c 8 t (ix2 0 e) = m ((c : Thread nD τ).loc main_arg10) (ix1 e) := by
  blk_simp [iblk, idxs t]
  entry_read
  pointwise
  blk_ext [idxs t]
theorem blk9 (e : Fin 1024) : iblk m c 9 t (ix2 0 e) = m ((c : Thread nD τ).loc main_arg11) (ix1 e) := by
  blk_simp [iblk, idxs t]
  entry_read
  pointwise
  blk_ext [idxs t]
theorem blk10 (e : Fin 1024) : iblk m c 10 t (ix2 0 e) = m ((c : Thread nD τ).loc main_arg12) (ix1 e) := by
  blk_simp [iblk, idxs t]
  entry_read
  pointwise
  blk_ext [idxs t]
theorem blk5 (k : Fin 1024) (e : Fin 2048) : iblk m c 5 t (ix2 k e) = if h : e.val < 1024 then m ((c : Thread nD τ).loc main_arg5) (ix2 k ⟨e.val, h⟩) else m ((c : Thread nD τ).loc main_arg7) (ix2 k ⟨e.val - 1024, by omega⟩) := by
  blk_simp [iblk, idxs t]
  entry_read
  pointwise
  have he : ((View.whole main_v6).slice (win0_5.rect t)).emb (ix2 k e) = ix2 k e := by blk_ext [idxs t]
  simp only [he]
  rfl
theorem blk6 (e : Fin 2048) : iblk m c 6 t (ix2 0 e) = if h : e.val < 1024 then m ((c : Thread nD τ).loc main_arg6) (ix1 ⟨e.val, h⟩) else m ((c : Thread nD τ).loc main_arg8) (ix1 ⟨e.val - 1024, by omega⟩) := by
  blk_simp [iblk, idxs t]
  entry_read
  pointwise
  have he : ((View.whole main_v8).slice (win0_6.rect t)).emb (ix2 0 e) = ix2 0 e := by blk_ext [idxs t]
  simp only [he]
  rfl

/-- Batch `b`'s operands, as entries of the argument arrays. -/
def arr (x0 : S16x8192x1024.Idx → EReal) (x1 : S16x8192.Idx → BitVec 1) (x2 : S64x1024.Idx → EReal) (x3 : S1024x1024.Idx → EReal) (x4 : S1024.Idx → EReal)
    (x5 : S1024x1024.Idx → EReal) (x6 : S1024.Idx → EReal) (x7 : S1024x1024.Idx → EReal) (x8 : S1024.Idx → EReal) (x9 : S1024x1024.Idx → EReal)
    (x10 x11 x12 : S1024.Idx → EReal) (b : ℕ) : Arr where
  x n k := x0 (ix3 ⟨b % 16, Nat.mod_lt _ (by decide)⟩ n k)
  msk n := if x1 (ix2 ⟨b % 16, Nat.mod_lt _ (by decide)⟩ n) = 1#1 then 1 else 0
  qi q k := x2 (ix2 q k)
  wq k e := x3 (ix2 k e)
  bq e := x4 (ix1 e)
  wkv k e := if h : e.val < 1024 then x5 (ix2 k ⟨e.val, h⟩) else x7 (ix2 k ⟨e.val - 1024, by omega⟩)
  bkv e := if h : e.val < 1024 then x6 (ix1 ⟨e.val, h⟩) else x8 (ix1 ⟨e.val - 1024, by omega⟩)
  wo k e := x9 (ix2 k e)
  bo e := x10 (ix1 e)
  g e := x11 (ix1 e)
  β e := x12 (ix1 e)

/-- Batch `b`'s operands in memory `m`. -/
def arrM (b : ℕ) : Arr := arr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) b

theorem wins_arr : Wins (arrM m c (t.val / 8)) ⟨t.val % 8, Nat.mod_lt _ (by decide)⟩ (iblk m c 0 t) (iblk m c 1 t) (iblk m c 2 t) (iblk m c 3 t) (iblk m c 4 t) (iblk m c 5 t) (iblk m c 6 t) (iblk m c 7 t) (iblk m c 8 t) (iblk m c 9 t) (iblk m c 10 t) :=
  ⟨blk0 m c t, blk1 m c t, blk2 m c t, blk3 m c t, blk4 m c t, blk5 m c t, blk6 m c t, blk7 m c t, blk8 m c t, blk9 m c t, blk10 m c t⟩

theorem ks_arr (A : Arr) (wk : Fin 1024 → Fin 1024 → EReal) (bk : Fin 1024 → EReal) (hw : ∀ k (e : Fin 1024), A.wkv k ⟨e.val, by omega⟩ = wk k e) (hb : ∀ e : Fin 1024, A.bkv ⟨e.val, by omega⟩ = bk e)
    (n : Fin 8192) (e : Fin 1024) : ks A n e = (∑ k, A.x n k * wk k e) + bk e := by
  unfold ks
  simp only [hw, hb]
theorem vs_arr (A : Arr) (wv : Fin 1024 → Fin 1024 → EReal) (bv : Fin 1024 → EReal) (hw : ∀ k (e : Fin 1024), A.wkv k ⟨1024 + e.val, by omega⟩ = wv k e) (hb : ∀ e : Fin 1024, A.bkv ⟨1024 + e.val, by omega⟩ = bv e)
    (n : Fin 8192) (e : Fin 1024) : vs A n e = (∑ k, A.x n k * wv k e) + bv e := by
  unfold vs
  simp only [hw, hb]

end Cert.KernelIdeal.Head

end
-- ==== Proof.Ref.lean ====
/- The reference's results, read at an index. -/
module

public import proofs.«01_k».proof.Proof.RefRun
public import proofs.«01_k».proof.Proof.Operands

@[expose] public section

set_option maxRecDepth 16384
set_option maxHeartbeats 1000000

noncomputable section

namespace Cert.ReferenceIdeal.Head

open Cert.ReferenceIdeal Cert.ReferenceIdeal.Gen Cert.ReferenceIdeal.Read
open Cert.KernelIdeal.Head (Arr arr hd at8 ks vs ks_arr vs_arr nC nMu nVar nOut hd_surj)
open Idealize.ShloMosaic Idealize.ShloMosaic.TcCoe Idealize.SL.Sem

/-- The queries, unscaled. -/
def rQ (A : Arr) (q : Fin 64) (e : Fin 1024) : EReal := (∑ k, A.qi q k * A.wq k e) + A.bq e
/-- The masked scores. -/
def rS (A : Arr) (bit : Fin 8192 → BitVec 1) (h : Fin 8) (q : Fin 64) (n : Fin 8192) : EReal :=
  if bit n = 1#1 then Ideal.ofBits .f32 0xFF800000#32 else (∑ d, ks A n (hd h d) * rQ A q (hd h d)) * Ideal.ofBits .f32 0x3DB504F3#32
/-- The softmax of a row. -/
def rM (s : Fin 8192 → EReal) : EReal := max (Ideal.ofBits .f32 0xFF800000#32) ((Finset.univ : Finset (Fin 8192)).fold max (Ideal.ofBits .f32 0xFF800000#32) s)
def rA (s : Fin 8192 → EReal) (n : Fin 8192) : EReal := Ideal.div (Ideal.exp (s n - rM s)) (∑ n, Ideal.exp (s n - rM s))
/-- The heads' results side by side. -/
def rCat (A : Arr) (bit : Fin 8192 → BitVec 1) (q : Fin 64) (e : Fin 1024) : EReal :=
  ∑ n, vs A n e * rA (rS A bit ⟨e.val / 128, by omega⟩ q) n
def rAvg (A : Arr) (bit : Fin 8192 → BitVec 1) (q : Fin 64) (n : Fin 8192) : EReal :=
  Ideal.div (∑ h, rA (rS A bit h q) n) (Ideal.ofBits .f32 0x41000000#32)

variable (x0 : (⟨S16x8192x1024, .f32⟩ : BufTy).Contents (Elt Ideal)) (x1 : (⟨S16x8192, .i1⟩ : BufTy).Contents (Elt Ideal)) (x2 : (⟨S64x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024, .f32⟩ : BufTy).Contents (Elt Ideal)) (x12 : (⟨S1024, .f32⟩ : BufTy).Contents (Elt Ideal)) (b : Fin 16)

theorem ks_at (n : Fin 8192) (e : Fin 1024) : ks (arr x0 x1 x2 x3 x4 x5 x6 x7 x8 x9 x10 x11 x12 b.val) n e = (∑ k, x0 (ix3 b n k) * x5 (ix2 k e)) + x6 (ix1 e) := by
  have hb : (⟨b.val % 16, Nat.mod_lt _ (by decide)⟩ : Fin 16) = b := Fin.ext (Nat.mod_eq_of_lt b.isLt)
  refine (ks_arr _ (fun k e => x5 (ix2 k e)) (fun e => x6 (ix1 e)) ?_ ?_ n e).trans ?_
  · intro k e; simp only [arr]; rw [dif_pos e.isLt]
  · intro e; simp only [arr]; rw [dif_pos e.isLt]
  · simp only [arr, hb]
theorem vs_at (n : Fin 8192) (e : Fin 1024) : vs (arr x0 x1 x2 x3 x4 x5 x6 x7 x8 x9 x10 x11 x12 b.val) n e = (∑ k, x0 (ix3 b n k) * x7 (ix2 k e)) + x8 (ix1 e) := by
  have hb : (⟨b.val % 16, Nat.mod_lt _ (by decide)⟩ : Fin 16) = b := Fin.ext (Nat.mod_eq_of_lt b.isLt)
  have hs : ∀ (e : Fin 1024), (⟨1024 + e.val - 1024, by omega⟩ : Fin 1024) = e := fun e => Fin.ext (by simp)
  refine (vs_arr _ (fun k e => x7 (ix2 k e)) (fun e => x8 (ix1 e)) ?_ ?_ n e).trans ?_
  · intro k e; simp only [arr]; rw [dif_neg (by omega), hs]
  · intro e; simp only [arr]; rw [dif_neg (by omega), hs]
  · simp only [arr, hb]

theorem v4_at (q : Fin 64) (h : Fin 8) (d : Fin 128) : val_main_v4 (F := Ideal) x2 x3 x4 (ix3 q h d) = rQ (arr x0 x1 x2 x3 x4 x5 x6 x7 x8 x9 x10 x11 x12 b.val) q (hd h d) := by
  have e : (⟨h.val * 128 + d.val, by omega⟩ : Fin 1024) = hd h d := Fin.ext (by show h.val * 128 + d.val = 128 * h.val + d.val; omega)
  pointwise [val_main_v4, val_main_v3, val_main_v2, val_main_v1, val_main_v0, rQ]
  rw [e]
  simp only [arr]
theorem v9_at (n : Fin 8192) (h : Fin 8) (d : Fin 128) : val_main_v9 (F := Ideal) x0 x5 x6 (ix4 b n h d) = ks (arr x0 x1 x2 x3 x4 x5 x6 x7 x8 x9 x10 x11 x12 b.val) n (hd h d) := by
  have e : (⟨h.val * 128 + d.val, by omega⟩ : Fin 1024) = hd h d := Fin.ext (by show h.val * 128 + d.val = 128 * h.val + d.val; omega)
  rw [ks_at]
  pointwise [val_main_v9, val_main_v8, val_main_v7, val_main_v6, val_main_v5]
  rw [e]
theorem v20_at (h : Fin 8) (q : Fin 64) (n : Fin 8192) : val_main_v20 (F := Ideal) x0 x1 x2 x3 x4 x5 x6 (ix4 b h q n) = rS (arr x0 x1 x2 x3 x4 x5 x6 x7 x8 x9 x10 x11 x12 b.val) (fun n => x1 (ix2 b n)) h q n := by
  pointwise [val_main_v20, val_main_v18, val_main_v17, val_main_v16, val_main_v15, val_main_cst, val_main_call0_v1, val_main_call0_v2, v4_at x0 x1 x2 x3 x4 x5 x6 x7 x8 x9 x10 x11 x12 b, v9_at x0 x1 x2 x3 x4 x5 x6 x7 x8 x9 x10 x11 x12 b, rS, val_main_v19, val_main_call0_v0, val_main_cst_0]
  rfl

theorem reduce_max (y : S16x8x64x8192.Idx → EReal) (z : S_.Idx → EReal) (b : Fin 16) (h : Fin 8) (q : Fin 64) :
    Host.reduce (FloatOps.maximumf : Ideal .f32 → Ideal .f32 → Ideal .f32) y z reducesTo_S16x8x64x8192_S16x8x64_d3 h_S_ (ix3 b h q) = (Finset.univ : Finset (Fin 8192)).fold max (z (Shape.Idx.first h_S_)) (fun n => y (ix4 b h q n)) := by
  pointwise []
theorem cst_1_first : val_main_cst_1 (F := Ideal) (Shape.Idx.first h_S_) = Ideal.ofBits .f32 0xFF800000#32 := rfl
theorem v21_red (b : Fin 16) (h : Fin 8) (q : Fin 64) : val_main_v21 (F := Ideal) x0 x1 x2 x3 x4 x5 x6 (ix3 b h q) = (Finset.univ : Finset (Fin 8192)).fold max (val_main_cst_1 (F := Ideal) (Shape.Idx.first h_S_)) (fun n => val_main_v20 (F := Ideal) x0 x1 x2 x3 x4 x5 x6 (ix4 b h q n)) := by
  unfold val_main_v21
  generalize val_main_v20 (F := Ideal) x0 x1 x2 x3 x4 x5 x6 = y
  generalize val_main_cst_1 (F := Ideal) = z
  exact reduce_max y z b h q
theorem v21_at (h : Fin 8) (q : Fin 64) : val_main_v21 (F := Ideal) x0 x1 x2 x3 x4 x5 x6 (ix3 b h q) = (Finset.univ : Finset (Fin 8192)).fold max (Ideal.ofBits .f32 0xFF800000#32) (rS (arr x0 x1 x2 x3 x4 x5 x6 x7 x8 x9 x10 x11 x12 b.val) (fun n => x1 (ix2 b n)) h q) := by
  have e : (fun n => val_main_v20 (F := Ideal) x0 x1 x2 x3 x4 x5 x6 (ix4 b h q n)) = rS (arr x0 x1 x2 x3 x4 x5 x6 x7 x8 x9 x10 x11 x12 b.val) (fun n => x1 (ix2 b n)) h q := funext fun n => v20_at x0 x1 x2 x3 x4 x5 x6 x7 x8 x9 x10 x11 x12 b h q n
  refine (v21_red x0 x1 x2 x3 x4 x5 x6 b h q).trans ?_
  rw [cst_1_first]
  exact congrArg (fun f => (Finset.univ : Finset (Fin 8192)).fold max (Ideal.ofBits .f32 0xFF800000#32) f) e
theorem neg_word : (FloatOps.ofBits .f32 0xFF800000#32 : Ideal .f32) = Ideal.ofBits .f32 0xFF800000#32 := rfl
theorem v23_max (b : Fin 16) (h : Fin 8) (q : Fin 64) : val_main_v23 (F := Ideal) x0 x1 x2 x3 x4 x5 x6 (ix3 b h q) = max (Ideal.ofBits .f32 0xFF800000#32) (val_main_v21 (F := Ideal) x0 x1 x2 x3 x4 x5 x6 (ix3 b h q)) := by
  rw [val_main_v23_apply, val_main_v22_apply, val_main_cst_2_apply, Ideal.maximumf_eq_max, neg_word]
theorem v23_at (h : Fin 8) (q : Fin 64) : val_main_v23 (F := Ideal) x0 x1 x2 x3 x4 x5 x6 (ix3 b h q) = rM (rS (arr x0 x1 x2 x3 x4 x5 x6 x7 x8 x9 x10 x11 x12 b.val) (fun n => x1 (ix2 b n)) h q) := by
  refine (v23_max x0 x1 x2 x3 x4 x5 x6 b h q).trans ?_
  unfold rM
  exact congrArg (fun t => max (Ideal.ofBits .f32 0xFF800000#32) t) (v21_at x0 x1 x2 x3 x4 x5 x6 x7 x8 x9 x10 x11 x12 b h q)
theorem v27_at (h : Fin 8) (q : Fin 64) (n : Fin 8192) : val_main_v27 (F := Ideal) x0 x1 x2 x3 x4 x5 x6 (ix4 b h q n) = Ideal.exp (rS (arr x0 x1 x2 x3 x4 x5 x6 x7 x8 x9 x10 x11 x12 b.val) (fun n => x1 (ix2 b n)) h q n - rM (rS (arr x0 x1 x2 x3 x4 x5 x6 x7 x8 x9 x10 x11 x12 b.val) (fun n => x1 (ix2 b n)) h q)) := by
  pointwise [v20_at x0 x1 x2 x3 x4 x5 x6 x7 x8 x9 x10 x11 x12 b, v23_at x0 x1 x2 x3 x4 x5 x6 x7 x8 x9 x10 x11 x12 b, val_main_v27, val_main_v26, val_main_v25, val_main_v24]
theorem v28_at (h : Fin 8) (q : Fin 64) : val_main_v28 (F := Ideal) x0 x1 x2 x3 x4 x5 x6 (ix3 b h q) = ∑ n, Ideal.exp (rS (arr x0 x1 x2 x3 x4 x5 x6 x7 x8 x9 x10 x11 x12 b.val) (fun n => x1 (ix2 b n)) h q n - rM (rS (arr x0 x1 x2 x3 x4 x5 x6 x7 x8 x9 x10 x11 x12 b.val) (fun n => x1 (ix2 b n)) h q)) := by
  pointwise [v27_at x0 x1 x2 x3 x4 x5 x6 x7 x8 x9 x10 x11 x12 b, val_main_v28, val_main_cst_3]
theorem v31_at (h : Fin 8) (q : Fin 64) (n : Fin 8192) : val_main_v31 (F := Ideal) x0 x1 x2 x3 x4 x5 x6 (ix4 b h q n) = rA (rS (arr x0 x1 x2 x3 x4 x5 x6 x7 x8 x9 x10 x11 x12 b.val) (fun n => x1 (ix2 b n)) h q) n := by
  unfold rA
  pointwise [v27_at x0 x1 x2 x3 x4 x5 x6 x7 x8 x9 x10 x11 x12 b, v28_at x0 x1 x2 x3 x4 x5 x6 x7 x8 x9 x10 x11 x12 b, val_main_v31, val_main_v30, val_main_v29]
theorem v59_at (q : Fin 64) (n : Fin 8192) : val_main_v59 (F := Ideal) x0 x1 x2 x3 x4 x5 x6 (ix3 b q n) = rAvg (arr x0 x1 x2 x3 x4 x5 x6 x7 x8 x9 x10 x11 x12 b.val) (fun n => x1 (ix2 b n)) q n := by
  pointwise [v31_at x0 x1 x2 x3 x4 x5 x6 x7 x8 x9 x10 x11 x12 b, val_main_v59, val_main_v58, val_main_v57, rAvg, val_main_cst_7, val_main_cst_8]
theorem v14_at (n : Fin 8192) (h : Fin 8) (d : Fin 128) : val_main_v14 (F := Ideal) x0 x7 x8 (ix4 b n h d) = vs (arr x0 x1 x2 x3 x4 x5 x6 x7 x8 x9 x10 x11 x12 b.val) n (hd h d) := by
  have e : (⟨h.val * 128 + d.val, by omega⟩ : Fin 1024) = hd h d := Fin.ext (by show h.val * 128 + d.val = 128 * h.val + d.val; omega)
  rw [vs_at]
  pointwise [val_main_v14, val_main_v13, val_main_v12, val_main_v11, val_main_v10]
  rw [e]
theorem v34_at (q : Fin 64) (e : Fin 1024) : val_main_v34 (F := Ideal) x0 x1 x2 x3 x4 x5 x6 x7 x8 (ix3 b q e) = rCat (arr x0 x1 x2 x3 x4 x5 x6 x7 x8 x9 x10 x11 x12 b.val) (fun n => x1 (ix2 b n)) q e := by
  pointwise [v14_at x0 x1 x2 x3 x4 x5 x6 x7 x8 x9 x10 x11 x12 b, v31_at x0 x1 x2 x3 x4 x5 x6 x7 x8 x9 x10 x11 x12 b, val_main_v34, val_main_v33, val_main_v32, rCat]
  have e' : hd ⟨e.val / 128, by omega⟩ ⟨e.val % 128, Nat.mod_lt _ (by decide)⟩ = e := Fin.ext (by show 128 * (e.val / 128) + e.val % 128 = e.val; omega)
  rw [e']
theorem v38_at (q : Fin 64) (e : Fin 1024) : val_main_v38 (F := Ideal) x0 x1 x2 x3 x4 x5 x6 x7 x8 x9 x10 (ix3 b q e) = nC (rCat (arr x0 x1 x2 x3 x4 x5 x6 x7 x8 x9 x10 x11 x12 b.val) (fun n => x1 (ix2 b n))) (arr x0 x1 x2 x3 x4 x5 x6 x7 x8 x9 x10 x11 x12 b.val).wo (arr x0 x1 x2 x3 x4 x5 x6 x7 x8 x9 x10 x11 x12 b.val).bo q e := by
  pointwise [v34_at x0 x1 x2 x3 x4 x5 x6 x7 x8 x9 x10 x11 x12 b, val_main_v35, val_main_v36, val_main_v37, val_main_v38, nC]
  simp only [arr]

/-- The divisor of the variance is 1024 and is positive. -/
theorem words_1024 : Ideal.ofBits .f32 0x44800000#32 = ((1024 : ℝ) : EReal) := by
  simp [Ideal.ofBits, Ideal.ieee, -EReal.coe_mul]; norm_num
theorem v42_at (q : Fin 64) : val_main_v42 (F := Ideal) x0 x1 x2 x3 x4 x5 x6 x7 x8 x9 x10 (ix3 b q 0) = nMu (nC (rCat (arr x0 x1 x2 x3 x4 x5 x6 x7 x8 x9 x10 x11 x12 b.val) (fun n => x1 (ix2 b n))) (arr x0 x1 x2 x3 x4 x5 x6 x7 x8 x9 x10 x11 x12 b.val).wo (arr x0 x1 x2 x3 x4 x5 x6 x7 x8 x9 x10 x11 x12 b.val).bo q) := by
  pointwise [v38_at x0 x1 x2 x3 x4 x5 x6 x7 x8 x9 x10 x11 x12 b, val_main_v42, val_main_v41, val_main_v40, val_main_v39, nMu, val_main_cst_4, val_main_cst_5]
theorem v8_div (i : S_.Idx) : val_main_call1_v8 (F := Ideal) i = Ideal.ofBits .f32 0x44800000#32 := by
  have e : (FloatOps.sitofp .f32 (0#32 : BitVec 32) : Ideal .f32) = (0 : EReal) := by
    show ((((0#32 : BitVec 32).toInt : ℤ) : ℝ) : EReal) = 0
    simp
  pointwise [val_main_call1_v8, val_main_call1_v7, val_main_call1_cst_1, val_main_c]
  rw [e]
  exact sub_zero _
theorem c12_at (q : Fin 64) : val_main_call1_v12 (F := Ideal) x0 x1 x2 x3 x4 x5 x6 x7 x8 x9 x10 (ix3 b q 0) = nVar (nC (rCat (arr x0 x1 x2 x3 x4 x5 x6 x7 x8 x9 x10 x11 x12 b.val) (fun n => x1 (ix2 b n))) (arr x0 x1 x2 x3 x4 x5 x6 x7 x8 x9 x10 x11 x12 b.val).wo (arr x0 x1 x2 x3 x4 x5 x6 x7 x8 x9 x10 x11 x12 b.val).bo q) := by
  pointwise [v38_at x0 x1 x2 x3 x4 x5 x6 x7 x8 x9 x10 x11 x12 b, val_main_call1_v12, val_main_call1_v11, val_main_call1_v10, val_main_call1_v9, v8_div, val_main_call1_v6, val_main_call1_v5, val_main_call1_v4, val_main_call1_v3, val_main_call1_v2, val_main_call1_v1, val_main_call1_v0, val_main_call1_cst, val_main_call1_cst_0, val_main_call1_cst_1, val_main_call1_cst_2, nMu, nVar]
theorem c13_at (i : S_.Idx) : val_main_call1_v13 (F := Ideal) i = 1#1 := by
  have e : (0 : EReal) < Ideal.ofBits .f32 0x44800000#32 := by
    rw [words_1024]; exact_mod_cast (by norm_num : (0 : ℝ) < 1024)
  pointwise [val_main_call1_v13, v8_div, val_main_call1_cst_3]
  simp [e]
theorem v43_at (q : Fin 64) : val_main_v43 (F := Ideal) x0 x1 x2 x3 x4 x5 x6 x7 x8 x9 x10 (ix3 b q 0) = nVar (nC (rCat (arr x0 x1 x2 x3 x4 x5 x6 x7 x8 x9 x10 x11 x12 b.val) (fun n => x1 (ix2 b n))) (arr x0 x1 x2 x3 x4 x5 x6 x7 x8 x9 x10 x11 x12 b.val).wo (arr x0 x1 x2 x3 x4 x5 x6 x7 x8 x9 x10 x11 x12 b.val).bo q) := by
  pointwise [c12_at x0 x1 x2 x3 x4 x5 x6 x7 x8 x9 x10 x11 x12 b, c13_at, val_main_v43]
theorem v56_at (q : Fin 64) (e : Fin 1024) : val_main_v56 (F := Ideal) x0 x1 x2 x3 x4 x5 x6 x7 x8 x9 x10 x11 x12 (ix3 b q e) = nOut (nC (rCat (arr x0 x1 x2 x3 x4 x5 x6 x7 x8 x9 x10 x11 x12 b.val) (fun n => x1 (ix2 b n))) (arr x0 x1 x2 x3 x4 x5 x6 x7 x8 x9 x10 x11 x12 b.val).wo (arr x0 x1 x2 x3 x4 x5 x6 x7 x8 x9 x10 x11 x12 b.val).bo q) (arr x0 x1 x2 x3 x4 x5 x6 x7 x8 x9 x10 x11 x12 b.val).g (arr x0 x1 x2 x3 x4 x5 x6 x7 x8 x9 x10 x11 x12 b.val).β e := by
  pointwise [v38_at x0 x1 x2 x3 x4 x5 x6 x7 x8 x9 x10 x11 x12 b, v42_at x0 x1 x2 x3 x4 x5 x6 x7 x8 x9 x10 x11 x12 b, v43_at x0 x1 x2 x3 x4 x5 x6 x7 x8 x9 x10 x11 x12 b, val_main_v56, val_main_v55, val_main_v54, val_main_v53, val_main_v52, val_main_v51, val_main_v50, val_main_v49, val_main_v48, val_main_v47, val_main_v46, val_main_v45, val_main_v44, val_main_cst_6, nOut]
  simp only [arr]

end Cert.ReferenceIdeal.Head

end
-- ==== Proof.Math.lean ====
/- The blocks' softmax, combined, is the softmax of the whole row. -/
module

public import proofs.«01_k».proof.Proof.Ref

@[expose] public section

set_option maxHeartbeats 1000000

noncomputable section

namespace Cert.ReferenceIdeal.Head

open Cert.KernelIdeal.Head
open Idealize.ShloMosaic

/-- A real number among the extended ones. -/
def IsR (x : EReal) : Prop := ∃ r : ℝ, x = (r : EReal)

theorem isR_of {x : EReal} (h1 : x ≠ ⊤) (h2 : x ≠ ⊥) : IsR x := ⟨x.toReal, (EReal.coe_toReal h1 h2).symm⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]
theorem isR_sum {ι : Type*} [Fintype ι] (f : ι → EReal) (h : ∀ i, IsR (f i)) : IsR (∑ i, f i) := by
  choose g hg using h
  exact ⟨∑ i, g i, by rw [coe_sum]; exact Finset.sum_congr rfl fun i _ => hg i⟩
/-- A real factor leaves a sum of real numbers. -/
theorem sum_mul_R {ι : Type*} [Fintype ι] (f : ι → EReal) (c : EReal) (h : ∀ i, IsR (f i)) (hc : IsR c) :
    ∑ i, f i * c = (∑ i, f i) * c := by
  choose g hg using h
  obtain ⟨c, rfl⟩ := hc
  have e : ∑ i, f i = ((∑ i, g i : ℝ) : EReal) := by rw [coe_sum]; exact Finset.sum_congr rfl fun i _ => hg i
  rw [e, ← EReal.coe_mul, Finset.sum_mul, coe_sum]
  exact Finset.sum_congr rfl fun i _ => by rw [hg i, EReal.coe_mul]

/-- The exponential of a number below the positive infinity. -/
theorem exp_R {x : EReal} (h : x ≠ ⊤) : IsR (Ideal.exp x) := by
  induction x with
  | bot => exact ⟨0, by simp⟩
  | top => exact absurd rfl h
  | coe r => exact ⟨Real.exp r, by simp⟩
theorem exp_nonneg (x : EReal) : 0 ≤ Ideal.exp x := by
  induction x with
  | bot => simp
  | top => exact le_top
  | coe r => simp only [Ideal.exp_coe]; exact_mod_cast (Real.exp_pos r).le
theorem exp_pos {x : EReal} (h : x ≠ ⊥) : 0 < Ideal.exp x := by
  induction x with
  | bot => exact absurd rfl h
  | top => exact EReal.zero_lt_top
  | coe r => simp only [Ideal.exp_coe]; exact_mod_cast Real.exp_pos r

/-- The exponential from the block's largest score, rescaled to the row's. -/
theorem exp_rescale {s μ G : EReal} (hs : s ≤ μ) (hμ : μ ≠ ⊤) (hG : IsR G) :
    Ideal.exp (s - μ) * Ideal.exp (μ - G) = Ideal.exp (s - G) := by
  obtain ⟨γ, rfl⟩ := hG
  induction μ with
  | top => exact absurd rfl hμ
  | bot =>
    obtain rfl : s = ⊥ := le_bot_iff.mp hs
    simp [EReal.bot_sub]
  | coe u =>
    induction s with
    | top => exact absurd hs (by simp)
    | bot => simp [EReal.bot_sub]
    | coe v =>
      rw [← EReal.coe_sub, ← EReal.coe_sub, ← EReal.coe_sub, Ideal.exp_coe, Ideal.exp_coe, Ideal.exp_coe, ← EReal.coe_mul, ← Real.exp_add]
      congr 2; ring

theorem at8_sum (f : Fin 8192 → EReal) : ∑ n, f n = ∑ j : Fin 8, ∑ r : Fin 1024, f (at8 j r) := by
  rw [Fin.sum_univ_tiles 8 1024 rfl f]
  refine Finset.sum_congr rfl fun j _ => Finset.sum_congr rfl fun r _ => congrArg f (Fin.ext ?_)
  show j.val * 1024 + r.val = 1024 * j.val + r.val
  omega
theorem fS_sum (a : Fin 8 → EReal) : fS a = ∑ j, a j := by
  unfold fS
  simp only [Fin.sum_univ_eight]

section Row
variable (s : Fin 8192 → EReal) (ht : ∀ n, s n ≠ ⊤) (hb : ∃ n, s n ≠ ⊥)

/-- The largest score of block `j`. -/
def blkM (j : Fin 8) : EReal := (Finset.univ : Finset (Fin 1024)).fold max ⊥ (fun r => s (at8 j r))
def blkP (j : Fin 8) (r : Fin 1024) : EReal := Ideal.exp (s (at8 j r) - blkM s j)
def blkL (j : Fin 8) : EReal := ∑ r, blkP s j r

theorem blkM_le (j : Fin 8) (c : EReal) : blkM s j ≤ c ↔ ∀ r, s (at8 j r) ≤ c := by
  unfold blkM; rw [Finset.fold_max_le]; simp
theorem rM_le (c : EReal) : rM s ≤ c ↔ ∀ n, s n ≤ c := by
  unfold rM; rw [neg_inf, max_le_iff, Finset.fold_max_le]; simp
theorem fM_eq : fM (blkM s) = rM s := by
  refine eq_of_forall_ge_iff fun c => ?_
  rw [rM_le]
  have e : fM (blkM s) ≤ c ↔ ∀ j, blkM s j ≤ c := by
    unfold fM
    simp only [max_le_iff, Fin.forall_fin_succ, Fin.forall_fin_zero_pi, IsEmpty.forall_iff, and_true, and_assoc]
    rfl
  rw [e]
  constructor
  · intro h n
    obtain ⟨j, r, rfl⟩ := at8_surj n
    exact (blkM_le s j c).mp (h j) r
  · intro h j
    exact (blkM_le s j c).mpr fun r => h _

include ht in
theorem rM_lt : rM s ≠ ⊤ := by
  unfold rM; rw [neg_inf]
  refine ne_of_lt (max_lt (bot_lt_top) ?_)
  rw [Finset.fold_max_lt]
  exact ⟨bot_lt_top, fun n _ => lt_top_iff_ne_top.mpr (ht n)⟩
include ht in
theorem blkM_ne (j : Fin 8) : blkM s j ≠ ⊤ := by
  unfold blkM
  refine ne_of_lt ?_
  rw [Finset.fold_max_lt]
  exact ⟨bot_lt_top, fun n _ => lt_top_iff_ne_top.mpr (ht _)⟩
include ht hb in
theorem rM_R : IsR (rM s) := by
  obtain ⟨n, hn⟩ := hb
  refine isR_of (rM_lt s ht) fun h => hn (le_bot_iff.mp ?_)
  rw [← h]
  exact (rM_le s _).mp le_rfl n

include ht hb in
theorem blk_rescale (j : Fin 8) (r : Fin 1024) : blkP s j r * fW (blkM s) j = Ideal.exp (s (at8 j r) - rM s) := by
  unfold blkP fW
  rw [fM_eq]
  exact exp_rescale ((blkM_le s j _).mp le_rfl r) (blkM_ne s ht j) (rM_R s ht hb)

theorem sub_ne {x y : EReal} (hx : x ≠ ⊤) (hy : IsR y) : x - y ≠ ⊤ := by
  obtain ⟨y, rfl⟩ := hy
  induction x with
  | bot => simp [EReal.bot_sub]
  | top => exact absurd rfl hx
  | coe v => rw [← EReal.coe_sub]; exact EReal.coe_ne_top _
include ht hb in
theorem expG_R (n : Fin 8192) : IsR (Ideal.exp (s n - rM s)) := exp_R (sub_ne (ht n) (rM_R s ht hb))
include ht in
theorem blkP_R (j : Fin 8) (r : Fin 1024) : IsR (blkP s j r) := by
  unfold blkP
  rcases eq_or_ne (blkM s j) ⊥ with h | h
  · have e : s (at8 j r) = ⊥ := le_bot_iff.mp (h ▸ (blkM_le s j _).mp le_rfl r)
    rw [e, EReal.bot_sub]; exact exp_R bot_ne_top
  · exact exp_R (sub_ne (ht _) (isR_of (blkM_ne s ht j) h))
include ht hb in
theorem fW_R (j : Fin 8) : IsR (fW (blkM s) j) := by
  unfold fW; rw [fM_eq]
  exact exp_R (sub_ne (blkM_ne s ht j) (rM_R s ht hb))

include ht hb in
theorem fL_eq : fL (blkM s) (blkL s) = ∑ n, Ideal.exp (s n - rM s) := by
  have e : fL (blkM s) (blkL s) = ∑ j, fW (blkM s) j * blkL s j := by
    unfold fL; simp only [Fin.sum_univ_eight]
  rw [e, at8_sum]
  refine Finset.sum_congr rfl fun j _ => ?_
  rw [mul_comm]
  unfold blkL
  rw [← sum_mul_R _ _ (blkP_R s ht j) (fW_R s ht hb j)]
  exact Finset.sum_congr rfl fun r _ => blk_rescale s ht hb j r

include ht hb in
theorem sum_pos : (0 : EReal) < ∑ n, Ideal.exp (s n - rM s) := by
  obtain ⟨n, hn⟩ := id hb
  refine lt_of_lt_of_le (exp_pos (x := s n - rM s) ?_) (Finset.single_le_sum (f := fun n => Ideal.exp (s n - rM s)) (fun i _ => exp_nonneg _) (Finset.mem_univ n))
  obtain ⟨v, hv⟩ := isR_of (ht n) hn
  obtain ⟨g, hg⟩ := rM_R s ht hb
  rw [hv, hg, ← EReal.coe_sub]; exact EReal.coe_ne_bot _

include ht hb in
/-- The combined softmax is the row's. -/
theorem att_eq (j : Fin 8) (r : Fin 1024) : blkP s j r * fF (blkM s) (blkL s) j = rA s (at8 j r) := by
  have hz := (sum_pos s ht hb).ne'
  unfold fF rA
  rw [fL_eq s ht hb]
  unfold Ideal.div
  rw [if_neg hz, if_neg hz, one_mul, ← mul_assoc, blk_rescale s ht hb]
include ht hb in
theorem rA_R (n : Fin 8192) : IsR (rA s n) := by
  have hz := (sum_pos s ht hb).ne'
  unfold rA Ideal.div
  rw [if_neg hz]
  refine (expG_R s ht hb n).mul ?_
  obtain ⟨z, e⟩ := isR_sum _ (expG_R s ht hb)
  rw [e]
  exact ⟨z⁻¹, (EReal.coe_inv z).symm⟩
end Row

theorem w_scale : IsR (Ideal.ofBits .f32 0x3DB504F3#32) := by
  refine isR_of ?_ ?_ <;> · simp [Ideal.ofBits, Ideal.ieee, -EReal.coe_mul]
theorem w_eighth : Ideal.ofBits .f32 0x3E000000#32 = ((8⁻¹ : ℝ) : EReal) := by
  simp [Ideal.ofBits, Ideal.ieee, -EReal.coe_mul]; norm_num
theorem w_eight : Ideal.ofBits .f32 0x41000000#32 = ((8 : ℝ) : EReal) := by
  simp [Ideal.ofBits, Ideal.ieee, -EReal.coe_mul]; norm_num

section Whole
variable (A : Arr) (bit : Fin 8192 → BitVec 1)
  (hQ : ∀ q e, IsR (rQ A q e)) (hK : ∀ n e, IsR (ks A n e))
  (hm : ∀ n, A.msk n = if bit n = 1#1 then 1 else 0) (hu : ∃ n, bit n ≠ 1#1)

include hQ hK hm in
theorem score_eq (h : Fin 8) (q : Fin 64) (j : Fin 8) (r : Fin 1024) :
    bSh (qs A) (fun r => ks A (at8 j r)) (fun r => A.msk (at8 j r)) h q r = rS A bit h q (at8 j r) := by
  unfold bSh rS
  simp only [hm]
  by_cases hb : bit (at8 j r) = 1#1
  · rw [if_pos hb, if_pos hb, one_mul, neg_inf]
    exact EReal.sub_top _
  · rw [if_neg hb, if_neg hb, zero_mul, sub_zero]
    rw [← sum_mul_R _ _ (fun d => (hK _ _).mul (hQ _ _)) w_scale]
    refine Finset.sum_congr rfl fun d _ => ?_
    show rQ A q (hd h d) * _ * _ = _
    rw [mul_right_comm, mul_comm (rQ A q (hd h d))]
include hQ hK in
theorem rS_ne (h : Fin 8) (q : Fin 64) (n : Fin 8192) : rS A bit h q n ≠ ⊤ := by
  unfold rS
  split
  · rw [neg_inf]; exact bot_ne_top
  · obtain ⟨x, e⟩ := (isR_sum _ fun d => (hK n (hd h d)).mul (hQ q (hd h d))).mul w_scale
    rw [e]; exact EReal.coe_ne_top _
include hQ hK hu in
theorem rS_un (h : Fin 8) (q : Fin 64) : ∃ n, rS A bit h q n ≠ ⊥ := by
  obtain ⟨n, hn⟩ := hu
  refine ⟨n, ?_⟩
  unfold rS
  rw [if_neg hn]
  obtain ⟨x, e⟩ := (isR_sum _ fun d => (hK n (hd h d)).mul (hQ q (hd h d))).mul w_scale
  rw [e]; exact EReal.coe_ne_bot _

include hQ hK hm in
theorem eM_eq (h : Fin 8) (q : Fin 64) : eM A h q = blkM (rS A bit h q) :=
  funext fun j => congrArg (fun f => (Finset.univ : Finset (Fin 1024)).fold max ⊥ f) (funext fun r => score_eq A bit hQ hK hm h q j r)
include hQ hK hm in
theorem eP_eq (h : Fin 8) (q : Fin 64) : eP A h q = blkP (rS A bit h q) :=
  funext fun j => funext fun r => by
    have e := congrFun (eM_eq A bit hQ hK hm h q) j
    unfold blkP
    rw [← e, ← score_eq A bit hQ hK hm h q j r]
    rfl
include hQ hK hm in
theorem eL_eq (h : Fin 8) (q : Fin 64) : eL A h q = blkL (rS A bit h q) :=
  funext fun j => by
    unfold blkL
    rw [← eP_eq A bit hQ hK hm h q]
    rfl

include hQ hK hm hu
theorem attn_eq (h : Fin 8) (q : Fin 64) (j : Fin 8) (r : Fin 1024) :
    att (eP A) (eM A) (eL A) h q j r = rA (rS A bit h q) (at8 j r) := by
  unfold att
  rw [eP_eq A bit hQ hK hm, eM_eq A bit hQ hK hm, eL_eq A bit hQ hK hm]
  exact att_eq _ (rS_ne A bit hQ hK h q) (rS_un A bit hQ hK hu h q) j r

/-- The averages agree. -/
theorem avg_eq (q : Fin 64) (j : Fin 8) (r : Fin 1024) : avg A q j r = rAvg A bit q (at8 j r) := by
  unfold avg rAvg
  simp only [attn_eq A bit hQ hK hm hu]
  have hR : ∀ h : Fin 8, IsR (rA (rS A bit h q) (at8 j r)) := fun h => rA_R _ (rS_ne A bit hQ hK h q) (rS_un A bit hQ hK hu h q) _
  rw [sum_mul_R _ _ hR ⟨_, w_eighth⟩, w_eighth, w_eight]
  unfold Ideal.div
  rw [if_neg (by exact_mod_cast (by norm_num : (8 : ℝ) ≠ 0)), ← EReal.coe_inv]
/-- The heads' results agree. -/
theorem cat_eq (q : Fin 64) (e : Fin 1024) : catv A q e = rCat A bit q e := by
  unfold catv rCat
  rw [fS_sum, at8_sum]
  refine Finset.sum_congr rfl fun j _ => Finset.sum_congr rfl fun r _ => ?_
  rw [attn_eq A bit hQ hK hm hu, mul_comm]
/-- The normalised results agree. -/
theorem out_eq (q : Fin 64) (e : Fin 1024) : out A q e = nOut (nC (rCat A bit) A.wo A.bo q) A.g A.β e := by
  have h : catv A = rCat A bit := funext fun q => funext fun e => cat_eq A bit hQ hK hm hu q e
  unfold out
  rw [h]
end Whole

end Cert.ReferenceIdeal.Head

end
-- ==== Proof.Pre.lean ====
/- What the precondition says of the arguments. -/
module

public import proofs.«01_k».proof.Pre_attends_and_finite
public import proofs.«01_k».proof.Proof.Math

@[expose] public section

set_option maxRecDepth 16384
set_option maxHeartbeats 1000000

noncomputable section

namespace Cert.Pre_attends_and_finite

open Idealize.ShloMosaic
open Cert.ReferenceIdeal.Head (IsR isR_of)

theorem preFacts : Facts where
  reducesTo_S16x8192_S16_d1 := by decide
  h_S_ := by decide
  bcast_S_S16x8192x1024 := by decide
  bcast_S_S64x1024 := by decide
  bcast_S_S1024x1024 := by decide
  bcast_S_S1024 := by decide

attribute [local instance] preFacts

theorem inf_word : Ideal.ofBits .f32 0x7F800000#32 = (⊤ : EReal) := by simp [Ideal.ofBits, Ideal.ieee]

/-- Numbers whose magnitude is below the infinity are real. -/
theorem real_of_lt (x : EReal) (h : BitVec.ofBool (decide (max x (-x) < Ideal.ofBits .f32 0x7F800000#32)) = 1#1) : IsR x := by
  rw [inf_word] at h
  have e : max x (-x) < ⊤ := by
    by_contra hc
    rw [decide_eq_false hc] at h
    exact absurd h (by decide)
  refine isR_of (fun hx => ?_) (fun hx => ?_)
  · rw [hx] at e; simp at e
  · rw [hx] at e; simp at e

theorem real_all {s : Shape} (hb : S_.BroadcastsInDim s (![] : Fin 0 → Fin s.rank)) (x : FVec Ideal s .f32)
    (h : cmpf .olt (Host.absf x) (broadcastInDim s ![] hb (constant S_ .f32 0x7F800000#32)) = fun _ => 1#1) (i : s.Idx) : IsR (x i) :=
  real_of_lt _ (congrFun h i)

theorem fold_or (n : Finset (Fin 8192)) : n.fold IntOp.ori (0#1) (fun _ => ~~~1#1) = 0#1 := by
  classical
  induction n using Finset.induction_on with
  | empty => rfl
  | insert a s ha ih => rw [Finset.fold_insert ha, ih]; rfl

variable (x0 : FVec Ideal S16x8192x1024 .f32) (x1 : IVec S16x8192 1) (x2 : FVec Ideal S64x1024 .f32) (x3 : FVec Ideal S1024x1024 .f32)
  (x4 : FVec Ideal S1024 .f32) (x5 : FVec Ideal S1024x1024 .f32) (x6 : FVec Ideal S1024 .f32) (x7 : FVec Ideal S1024x1024 .f32)
  (x8 : FVec Ideal S1024 .f32) (x9 : FVec Ideal S1024x1024 .f32) (x10 x11 x12 : FVec Ideal S1024 .f32)

theorem some_unmasked (h : (fn (F := Ideal) x0 x1 x2 x3 x4 x5 x6 x7 x8 x9 x10 x11 x12).1 = fun _ => 1#1) (b : Fin 16) : ∃ n, x1 (ix2 b n) ≠ 1#1 := by
  by_contra hc
  have hc : ∀ n, x1 (ix2 b n) = 1#1 := fun n => not_not.mp fun hn => hc ⟨n, hn⟩
  have e := congrFun h (ix1 b)
  revert e
  pointwise [fn, fn_part1, hc]
  rw [fold_or]
  decide

/-- The precondition, unpacked. -/
theorem real0 (h : (fn (F := Ideal) x0 x1 x2 x3 x4 x5 x6 x7 x8 x9 x10 x11 x12).2.1 = fun _ => 1#1) : ∀ i, IsR (x0 i) := real_all _ x0 h
theorem real2 (h : (fn (F := Ideal) x0 x1 x2 x3 x4 x5 x6 x7 x8 x9 x10 x11 x12).2.2.1 = fun _ => 1#1) : ∀ i, IsR (x2 i) := real_all _ x2 h
theorem real3 (h : (fn (F := Ideal) x0 x1 x2 x3 x4 x5 x6 x7 x8 x9 x10 x11 x12).2.2.2.1 = fun _ => 1#1) : ∀ i, IsR (x3 i) := real_all _ x3 h
theorem real4 (h : (fn (F := Ideal) x0 x1 x2 x3 x4 x5 x6 x7 x8 x9 x10 x11 x12).2.2.2.2.1 = fun _ => 1#1) : ∀ i, IsR (x4 i) := real_all _ x4 h
theorem real5 (h : (fn (F := Ideal) x0 x1 x2 x3 x4 x5 x6 x7 x8 x9 x10 x11 x12).2.2.2.2.2.1 = fun _ => 1#1) : ∀ i, IsR (x5 i) := real_all _ x5 h
theorem real6 (h : (fn (F := Ideal) x0 x1 x2 x3 x4 x5 x6 x7 x8 x9 x10 x11 x12).2.2.2.2.2.2 = fun _ => 1#1) : ∀ i, IsR (x6 i) := real_all _ x6 h

end Cert.Pre_attends_and_finite

end
-- ==== Proof.Inv.lean ====
/- The scratch along the grid, and what is flushed. -/
module

public import proofs.«01_k».proof.Proof.Step
public import proofs.«01_k».proof.Proof.Obligation

@[expose] public section

set_option maxRecDepth 16384
set_option maxHeartbeats 1000000

noncomputable section

namespace Cert.KernelIdeal.Head

open Cert.KernelIdeal Cert.KernelIdeal.Gen
open Idealize.ShloMosaic Idealize.ShloMosaic.TcCoe Idealize.SL.Sem Idealize.ShloMosaic.Pipeline

theorem coord1 : ∀ t : Fin grid0.N, (grid0.coords t 1).val = t.val % 8 := by decide +kernel

/-- The scratch before point `n`, once a batch has begun. -/
def Sp (A : ℕ → Arr) (n : ℕ) (s : Scr (F := Ideal)) : Prop :=
  n % 8 ≠ 0 → (∀ q e, (Memref.whole cc0_scratch0).view.read (Elt Ideal) s.f15 (ix2 q e) = qs (A (n / 8)) q e) ∧
    Kept (A (n / 8)) (n % 8) ((Memref.whole cc0_scratch3).view.read (Elt Ideal) s.f18) ((Memref.whole cc0_scratch4).view.read (Elt Ideal) s.f19) ((Memref.whole cc0_scratch5).view.read (Elt Ideal) s.f20) ((Memref.whole cc0_scratch6).view.read (Elt Ideal) s.f21)
/-- The first result's block after point `t`. -/
def Rout (A : ℕ → Arr) (t : Fin cfg0.N) (X : S1x64x1024.Idx → EReal) : Prop :=
  t.val % 8 = 7 → ∀ q e, X (ix3 0 q e) = out (A (t.val / 8)) q e
/-- The second result's block after point `t`. -/
def Ravg (A : ℕ → Arr) (t : Fin cfg0.N) (X : S1x64x8192.Idx → EReal) : Prop :=
  (t.val % 8 ≠ 7 → ∀ q j r, X (ix3 0 q (at8 j r)) = 0) ∧ (t.val % 8 = 7 → ∀ q j r, X (ix3 0 q (at8 j r)) = avg (A (t.val / 8)) q j r)

theorem kept_eq {A : Arr} {n n' : ℕ} (e : n = n') {b18 b19 b20 b21} (K : Kept A n b18 b19 b20 b21) : Kept A n' b18 b19 b20 b21 := e ▸ K

variable {m : (ℓ : Loc nD τ sig) → Buf (Elt Ideal) ℓ} {c : Dev nD} {A : ℕ → Arr}
  (HA : ∀ t : Fin cfg0.N, Wins (A (t.val / 8)) ⟨t.val % 8, Nat.mod_lt _ (by decide)⟩ (iblk m c 0 t) (iblk m c 1 t) (iblk m c 2 t) (iblk m c 3 t) (iblk m c 4 t) (iblk m c 5 t) (iblk m c 6 t) (iblk m c 7 t) (iblk m c 8 t) (iblk m c 9 t) (iblk m c 10 t))
include HA

theorem wins (t : Fin cfg0.N) (I : Inp m c t) : Wins (A (t.val / 8)) ⟨t.val % 8, Nat.mod_lt _ (by decide)⟩ ((st0_0 t).view.read (Elt Ideal) I.X2) ((st0_1 t).view.read (Elt Ideal) I.X3) ((st0_2 t).view.read (Elt Ideal) I.X4) ((st0_3 t).view.read (Elt Ideal) I.X5) ((st0_4 t).view.read (Elt Ideal) I.X6) ((st0_5 t).view.read (Elt Ideal) I.X7) ((st0_6 t).view.read (Elt Ideal) I.X8) ((st0_7 t).view.read (Elt Ideal) I.X9) ((st0_8 t).view.read (Elt Ideal) I.X10) ((st0_9 t).view.read (Elt Ideal) I.X11) ((st0_10 t).view.read (Elt Ideal) I.X12) := by
  rw [I.r2, I.r3, I.r4, I.r5, I.r6, I.r7, I.r8, I.r9, I.r10, I.r11, I.r12]
  exact HA t

theorem step_middle (t : Fin cfg0.N) (h1 : ¬ k0_cond1 (grid0.coords t) = 1#1) (h2 : ¬ k0_cond2 (grid0.coords t) = 1#1) (I : Inp m c t) (f13 : Ct (F := Ideal) (st0_11 t)) (f14 : Ct (F := Ideal) (st0_12 t)) (s : Scr (F := Ideal)) (hS : Sp A t.val s)
    (h12 : ∀ h0 : t.val ≠ 0, Ravg A ⟨t.val - 1, Nat.lt_of_le_of_lt (Nat.sub_le _ _) t.isLt⟩ ((st0_12 t).view.read (Elt Ideal) f14)) :
    Sp A (t.val + 1) (middleScr m c t h1 h2 I f13 f14 s) ∧ Rout A t ((st0_11 t).view.read (Elt Ideal) f13) ∧ Ravg A t ((st0_12 t).view.read (Elt Ideal) f14) := by
  have n1 : t.val % 8 ≠ 0 := fun h => h1 ((cond1_iff t).mpr h)
  have n2 : t.val % 8 ≠ 7 := fun h => h2 ((cond2_iff t).mpr h)
  refine ⟨fun _ => ?_, fun h => absurd h n2, fun _ => (h12 (by omega)).1 (by show (t.val - 1) % 8 ≠ 7; omega), fun h => absurd h n2⟩
  have hS := hS n1
  rw [show (t.val + 1) / 8 = t.val / 8 by omega, show (t.val + 1) % 8 = t.val % 8 + 1 by omega]
  exact ⟨hS.1, middle_kept c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) I.X2 I.X3 I.X4 I.X5 I.X6 I.X7 I.X8 I.X9 I.X10 I.X11 I.X12 f13 f14 s.f15 s.f16 s.f17 s.f18 s.f19 s.f20 s.f21 s.f22 (A (t.val / 8)) ⟨t.val % 8, Nat.mod_lt _ (by decide)⟩ (coord1 t) (wins HA t I) h1 h2 hS.1 hS.2⟩

theorem step_first (t : Fin cfg0.N) (h1 : k0_cond1 (grid0.coords t) = 1#1) (h2 : ¬ k0_cond2 (grid0.coords t) = 1#1) (I : Inp m c t) (f13 : Ct (F := Ideal) (st0_11 t)) (f14 : Ct (F := Ideal) (st0_12 t)) (s : Scr (F := Ideal)) (hS : Sp A t.val s) :
    Sp A (t.val + 1) (firstScr m c t h1 h2 I f13 f14 s) ∧ Rout A t ((st0_11 t).view.read (Elt Ideal) f13) ∧ Ravg A t ((st0_12 t).view.read (Elt Ideal) (firstOut m c t h1 h2 I f13 f14 s).1) := by
  have n1 : t.val % 8 = 0 := (cond1_iff t).mp h1
  have W := wins HA t I
  refine ⟨fun _ => ?_, fun h => by omega, fun _ q j r => ?_, fun h => by omega⟩
  · rw [show (t.val + 1) / 8 = t.val / 8 by omega, show (t.val + 1) % 8 = t.val % 8 + 1 by omega]
    refine ⟨fun q e => ?_, first_kept c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) I.X2 I.X3 I.X4 I.X5 I.X6 I.X7 I.X8 I.X9 I.X10 I.X11 I.X12 f13 f14 s.f15 s.f16 s.f17 s.f18 s.f19 s.f20 s.f21 s.f22 (A (t.val / 8)) ⟨t.val % 8, Nat.mod_lt _ (by decide)⟩ (coord1 t) W h1 h2 ?_⟩
    · refine (congrArg (fun f => (Memref.whole cc0_scratch0).view.read (Elt Ideal) f (ix2 q e)) (first_15 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) I.X2 I.X3 I.X4 I.X5 I.X6 I.X7 I.X8 I.X9 I.X10 I.X11 I.X12 f13 f14 s.f15 s.f16 s.f17 s.f18 s.f19 s.f20 s.f21 s.f22 h1 h2)).trans ?_
      exact queryFull (st0_0 t) (st0_1 t) (st0_2 t) (st0_3 t) (st0_4 t) (st0_5 t) (st0_6 t) (st0_7 t) (st0_8 t) (st0_9 t) (st0_10 t) (Memref.whole cc0_scratch0) I.X2 I.X3 I.X4 I.X5 I.X6 I.X7 I.X8 I.X9 I.X10 I.X11 I.X12 (A (t.val / 8)) ⟨t.val % 8, Nat.mod_lt _ (by decide)⟩ W _ q e
    · show Kept _ (t.val % 8) _ _ _ _
      rw [n1]; exact kept_zero _ _ _ _ _
  · refine (congrArg (fun f => (st0_12 t).view.read (Elt Ideal) f (ix3 0 q (at8 j r))) (first_14 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) I.X2 I.X3 I.X4 I.X5 I.X6 I.X7 I.X8 I.X9 I.X10 I.X11 I.X12 f13 f14 s.f15 s.f16 s.f17 s.f18 s.f19 s.f20 s.f21 s.f22 h1 h2)).trans ?_
    exact (congrFun (View.read_writes_full (st0_12 t).view _ _ _ _) _).trans (pay50_apply _)

theorem step_last (t : Fin cfg0.N) (h1 : ¬ k0_cond1 (grid0.coords t) = 1#1) (h2 : k0_cond2 (grid0.coords t) = 1#1) (I : Inp m c t) (f13 : Ct (F := Ideal) (st0_11 t)) (f14 : Ct (F := Ideal) (st0_12 t)) (s : Scr (F := Ideal)) (hS : Sp A t.val s)
    (h12 : ∀ h0 : t.val ≠ 0, Ravg A ⟨t.val - 1, Nat.lt_of_le_of_lt (Nat.sub_le _ _) t.isLt⟩ ((st0_12 t).view.read (Elt Ideal) f14)) :
    Sp A (t.val + 1) (lastScr m c t h1 h2 I f13 f14 s) ∧ Rout A t ((st0_11 t).view.read (Elt Ideal) (lastOut m c t h1 h2 I f13 f14 s).1)
      ∧ Ravg A t ((st0_12 t).view.read (Elt Ideal) (lastOut m c t h1 h2 I f13 f14 s).2.1) := by
  have n2 : t.val % 8 = 7 := (cond2_iff t).mp h2
  have W := wins HA t I
  have hS := hS (by omega)
  have K := last_kept c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) I.X2 I.X3 I.X4 I.X5 I.X6 I.X7 I.X8 I.X9 I.X10 I.X11 I.X12 f13 f14 s.f15 s.f16 s.f17 s.f18 s.f19 s.f20 s.f21 s.f22 (A (t.val / 8)) ⟨t.val % 8, Nat.mod_lt _ (by decide)⟩ (coord1 t) W h1 h2 hS.1 hS.2
  have e8 : t.val % 8 + 1 = 8 := by omega
  replace K := kept_eq e8 K
  refine ⟨fun h => absurd h (by omega), fun _ q e => ?_, fun h => absurd n2 h, fun _ q j r => ?_⟩
  · exact last_out c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) I.X2 I.X3 I.X4 I.X5 I.X6 I.X7 I.X8 I.X9 I.X10 I.X11 I.X12 f13 f14 s.f15 s.f16 s.f17 s.f18 s.f19 s.f20 s.f21 s.f22 (A (t.val / 8)) ⟨t.val % 8, Nat.mod_lt _ (by decide)⟩ W h1 h2 K q e
  · exact last_avg c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) I.X2 I.X3 I.X4 I.X5 I.X6 I.X7 I.X8 I.X9 I.X10 I.X11 I.X12 f13 f14 s.f15 s.f16 s.f17 s.f18 s.f19 s.f20 s.f21 s.f22 (A (t.val / 8)) h1 h2 K ((h12 (by omega)).1 (by show (t.val - 1) % 8 ≠ 7; omega)) q j r

/-- The scratch and the flushed blocks, tracked. -/
def track : Track m c where
  S := Sp A
  R11 := Rout A
  R12 := Ravg A
  start s := fun h => absurd rfl h
  on_middle t h1 h2 I f13 f14 s hS h12 := step_middle HA t h1 h2 I f13 f14 s hS h12
  on_first t h1 h2 I f13 f14 s hS := step_first HA t h1 h2 I f13 f14 s hS
  on_last t h1 h2 I f13 f14 s hS h12 := step_last HA t h1 h2 I f13 f14 s hS h12

end Cert.KernelIdeal.Head

end
-- ==== Proof.Result.lean ====
/- The two result arrays after the run. -/
module

public import proofs.«01_k».proof.Proof.Inv
public import proofs.«01_k».proof.Proof.Operands
public import Idealize.ShloMosaic.Lib.Pipeline.ArrRel

@[expose] public section

set_option maxRecDepth 16384
set_option maxHeartbeats 1000000

noncomputable section

namespace Cert.KernelIdeal.Head

open Cert.KernelIdeal Cert.KernelIdeal.Gen
open Idealize.ShloMosaic Idealize.ShloMosaic.TcCoe Idealize.SL.Sem Idealize.ShloMosaic.Pipeline

variable (m : (ℓ : Loc nD τ sig) → Buf (Elt Ideal) ℓ)

/-- What is tracked on each core. -/
def tracks (c : Dev nD) : Track m c := track (A := arrM m c) (wins_arr m c)

theorem flush11 : ∀ t : Fin cfg0.N, (cfg0.win 11).flush t = true → t.val % 8 = 7 := by decide +kernel
theorem flush12 : ∀ t : Fin cfg0.N, (cfg0.win 12).flush t = true → t.val % 8 = 7 := by decide +kernel

/-- The first result. -/
def resOut (c : Dev nD) : S16x64x1024.Idx → EReal := fun i => out (arrM m c (i 0).val) (i 1) (i 2)
/-- The second result. -/
def resAvg (c : Dev nD) : S16x64x8192.Idx → EReal := fun i => avg (arrM m c (i 0).val) (i 1) ⟨(i 2).val / 1024, Nat.div_lt_of_lt_mul (i 2).isLt⟩ ⟨(i 2).val % 1024, Nat.mod_lt _ (by decide)⟩

theorem resAvg_at (c : Dev nD) (b : Fin 16) (q : Fin 64) (j : Fin 8) (r : Fin 1024) : resAvg m c (ix3 b q (at8 j r)) = avg (arrM m c b.val) q j r := by
  have e1 : (⟨(at8 j r).val / 1024, Nat.div_lt_of_lt_mul (at8 j r).isLt⟩ : Fin 8) = j := Fin.ext (by show (1024 * j.val + r.val) / 1024 = j.val; omega)
  have e2 : (⟨(at8 j r).val % 1024, Nat.mod_lt _ (by decide)⟩ : Fin 1024) = r := Fin.ext (by show (1024 * j.val + r.val) % 1024 = r.val; omega)
  show avg (arrM m c b.val) q ⟨(at8 j r).val / 1024, _⟩ ⟨(at8 j r).val % 1024, _⟩ = _
  rw [e1, e2]

theorem row_first {n k : ℕ} (y : (⟨3, ![1, n, k]⟩ : Shape).Idx) : y = ix3 (0 : Fin 1) (y 1 : Fin n) (y 2 : Fin k) := by
  funext a
  match a with
  | ⟨0, _⟩ => exact Subsingleton.elim (α := Fin 1) _ _
  | ⟨1, _⟩ => rfl
  | ⟨2, _⟩ => rfl

theorem arr11 (c : Dev nD) (D : Dat τ (Elt Ideal) Unit ℕ (UR sig nD τ) ℕ cfg0 c) (hk : ∀ t : Fin cfg0.N, (cfg0.win 11).flush t = true → Rout (arrM m c) t (D.after 11 t)) :
    D.arrAt 11 cfg0.N = resOut m c := by
  refine D.arrAt_eq_of_covers 11 (resOut m c) (by decide +kernel) fun t hf y => ?_
  have h7 := flush11 t hf
  have hk := hk t hf h7
  blk_simp
  have hb := tlt t
  obtain ⟨q, e, rfl⟩ : ∃ (q : Fin 64) (e : Fin 1024), y = (ix3 0 q e : S1x64x1024.Idx) := ⟨y 1, y 2, row_first (n := 64) (k := 1024) y⟩
  have he : (win0_11.blk t).view.emb (ix3 0 q e) = ix3 ⟨t.val / 8, by omega⟩ q e := by blk_ext [idxs t]
  exact (hk q e).trans (congrArg (resOut m c) he).symm
theorem arr12 (c : Dev nD) (D : Dat τ (Elt Ideal) Unit ℕ (UR sig nD τ) ℕ cfg0 c) (hk : ∀ t : Fin cfg0.N, (cfg0.win 12).flush t = true → Ravg (arrM m c) t (D.after 12 t)) :
    D.arrAt 12 cfg0.N = resAvg m c := by
  refine D.arrAt_eq_of_covers 12 (resAvg m c) (by decide +kernel) fun t hf y => ?_
  have h7 := flush12 t hf
  have hk := (hk t hf).2 h7
  blk_simp
  have hb := tlt t
  obtain ⟨q, n, rfl⟩ : ∃ (q : Fin 64) (e : Fin 8192), y = (ix3 0 q e : S1x64x8192.Idx) := ⟨y 1, y 2, row_first (n := 64) (k := 8192) y⟩
  obtain ⟨j, r, rfl⟩ := at8_surj n
  have he : (win0_12.blk t).view.emb (ix3 0 q (at8 j r)) = ix3 ⟨t.val / 8, by omega⟩ q (at8 j r) := by blk_ext [idxs t]
  exact (hk q j r).trans ((congrArg (resAvg m c) he).trans (resAvg_at m c _ q j r)).symm

variable {m} in
theorem results {r : PUnit × MemSt nD τ sig (Elt Ideal)}
    (h : Pipeline.RDat.FramePost (cfgs 0) (fun c => (dat m c (tracks m c)).toRRel marked (kept m (tracks m c))) (V m) r) (c : Dev nD) :
    r.2.mem ((c : Thread nD τ).loc main_v13_0) = resOut m c ∧ r.2.mem ((c : Thread nD τ).loc main_v13_1) = resAvg m c := by
  obtain ⟨after, hL, hA⟩ := Pipeline.RDat.FramePost.exists_exact h c
  refine ⟨(hA 11).trans (arr11 m c _ fun t hf => ?_), (hA 12).trans (arr12 m c _ fun t hf => ?_)⟩
  · exact Dat.toRRel_leaves (fgt := marked) (w := 11) _ (by decide) (hL 11 t hf)
  · exact Dat.toRRel_leaves (fgt := marked) (w := 12) _ (by decide) (hL 12 t hf)

end Cert.KernelIdeal.Head

end
-- ==== Proof.Agree.lean ====
/- The reference's results are the kernel's, of arguments that meet the precondition. -/
module

public import proofs.«01_k».proof.Proof.Pre
public import proofs.«01_k».proof.Proof.Result

@[expose] public section

set_option maxRecDepth 16384
set_option maxHeartbeats 1000000

noncomputable section

namespace Cert.ReferenceIdeal.Head

open Cert.ReferenceIdeal Cert.ReferenceIdeal.Gen Cert.ReferenceIdeal.Read
open Cert.KernelIdeal.Head (Arr arr hd at8 ks vs ks_arr vs_arr nC nMu nVar nOut hd_surj at8_surj out avg)
open Idealize.ShloMosaic Idealize.ShloMosaic.TcCoe Idealize.SL.Sem

variable (x0 : (⟨S16x8192x1024, .f32⟩ : BufTy).Contents (Elt Ideal)) (x1 : (⟨S16x8192, .i1⟩ : BufTy).Contents (Elt Ideal)) (x2 : (⟨S64x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024, .f32⟩ : BufTy).Contents (Elt Ideal)) (x12 : (⟨S1024, .f32⟩ : BufTy).Contents (Elt Ideal))
  (h0 : ∀ i, IsR (x0 i)) (h2 : ∀ i, IsR (x2 i)) (h3 : ∀ i, IsR (x3 i)) (h4 : ∀ i, IsR (x4 i)) (h5 : ∀ i, IsR (x5 i)) (h6 : ∀ i, IsR (x6 i))
  (hu : ∀ b : Fin 16, ∃ n, x1 (ix2 b n) ≠ 1#1) (b : Fin 16)

include h2 h3 h4 in
theorem q_real (q : Fin 64) (e : Fin 1024) : IsR (rQ (arr x0 x1 x2 x3 x4 x5 x6 x7 x8 x9 x10 x11 x12 b.val) q e) := by
  unfold rQ
  simp only [arr]
  exact (isR_sum _ fun k => (h2 _).mul (h3 _)).add (h4 _)
include h0 h5 h6 in
theorem k_real (n : Fin 8192) (e : Fin 1024) : IsR (ks (arr x0 x1 x2 x3 x4 x5 x6 x7 x8 x9 x10 x11 x12 b.val) n e) := by
  rw [ks_at]
  exact (isR_sum _ fun k => (h0 _).mul (h5 _)).add (h6 _)
theorem msk_at (n : Fin 8192) : (arr x0 x1 x2 x3 x4 x5 x6 x7 x8 x9 x10 x11 x12 b.val).msk n = if x1 (ix2 b n) = 1#1 then 1 else 0 := by
  have hb : (⟨b.val % 16, Nat.mod_lt _ (by decide)⟩ : Fin 16) = b := Fin.ext (Nat.mod_eq_of_lt b.isLt)
  simp only [arr, hb]

include h0 h2 h3 h4 h5 h6 hu
theorem out_ref (q : Fin 64) (e : Fin 1024) : val_main_v56 (F := Ideal) x0 x1 x2 x3 x4 x5 x6 x7 x8 x9 x10 x11 x12 (ix3 b q e) = out (arr x0 x1 x2 x3 x4 x5 x6 x7 x8 x9 x10 x11 x12 b.val) q e := by
  rw [v56_at]
  exact (out_eq _ _ (q_real x0 x1 x2 x3 x4 x5 x6 x7 x8 x9 x10 x11 x12 h2 h3 h4 b) (k_real x0 x1 x2 x3 x4 x5 x6 x7 x8 x9 x10 x11 x12 h0 h5 h6 b) (msk_at x0 x1 x2 x3 x4 x5 x6 x7 x8 x9 x10 x11 x12 b) (hu b) q e).symm
theorem avg_ref (q : Fin 64) (j : Fin 8) (r : Fin 1024) : val_main_v59 (F := Ideal) x0 x1 x2 x3 x4 x5 x6 (ix3 b q (at8 j r)) = avg (arr x0 x1 x2 x3 x4 x5 x6 x7 x8 x9 x10 x11 x12 b.val) q j r := by
  rw [v59_at x0 x1 x2 x3 x4 x5 x6 x7 x8 x9 x10 x11 x12]
  exact (avg_eq _ _ (q_real x0 x1 x2 x3 x4 x5 x6 x7 x8 x9 x10 x11 x12 h2 h3 h4 b) (k_real x0 x1 x2 x3 x4 x5 x6 x7 x8 x9 x10 x11 x12 h0 h5 h6 b) (msk_at x0 x1 x2 x3 x4 x5 x6 x7 x8 x9 x10 x11 x12 b) (hu b) q j r).symm

omit b
theorem out_fun : val_main_v56 (F := Ideal) x0 x1 x2 x3 x4 x5 x6 x7 x8 x9 x10 x11 x12 = fun i : S16x64x1024.Idx => out (arr x0 x1 x2 x3 x4 x5 x6 x7 x8 x9 x10 x11 x12 (i 0).val) (i 1) (i 2) := by
  funext i
  have e : i = (ix3 (i 0) (i 1) (i 2) : S16x64x1024.Idx) := eq_ix3 i
  exact (congrArg (val_main_v56 (F := Ideal) x0 x1 x2 x3 x4 x5 x6 x7 x8 x9 x10 x11 x12) e).trans (out_ref x0 x1 x2 x3 x4 x5 x6 x7 x8 x9 x10 x11 x12 h0 h2 h3 h4 h5 h6 hu (i 0) (i 1) (i 2))
theorem avg_fun : val_main_v59 (F := Ideal) x0 x1 x2 x3 x4 x5 x6 = fun i : S16x64x8192.Idx => avg (arr x0 x1 x2 x3 x4 x5 x6 x7 x8 x9 x10 x11 x12 (i 0).val) (i 1)
    ⟨(i 2).val / 1024, Nat.div_lt_of_lt_mul (i 2).isLt⟩ ⟨(i 2).val % 1024, Nat.mod_lt _ (by decide)⟩ := by
  funext i
  have e : i = (ix3 (i 0) (i 1) (i 2) : S16x64x8192.Idx) := eq_ix3 i
  have e2 : (i 2 : Fin 8192) = at8 ⟨(i 2).val / 1024, Nat.div_lt_of_lt_mul (i 2).isLt⟩ ⟨(i 2).val % 1024, Nat.mod_lt _ (by decide)⟩ :=
    Fin.ext (by show (i 2).val = 1024 * ((i 2).val / 1024) + (i 2).val % 1024; omega)
  refine (congrArg (val_main_v59 (F := Ideal) x0 x1 x2 x3 x4 x5 x6) (e.trans (congrArg (fun n => (ix3 (i 0) (i 1) n : S16x64x8192.Idx)) e2))).trans ?_
  exact avg_ref x0 x1 x2 x3 x4 x5 x6 x7 x8 x9 x10 x11 x12 h0 h2 h3 h4 h5 h6 hu (i 0) (i 1) _ _

end Cert.ReferenceIdeal.Head

end
-- ==== Proof.lean ====
/- The claims, proved: the three programs run and leave their arguments as they were, the mask constant is the one that was
   printed, and the two idealized programs compute the same results. -/
module

public import proofs.«01_k».proof.Defs
public import proofs.«01_k».proof.Proof.KernelArgs
public import proofs.«01_k».proof.Proof.Args
public import proofs.«01_k».proof.Proof.RefRun
public import proofs.«01_k».proof.Proof.Agree
public import Idealize.ShloMosaic.Adequacy
public import Idealize.ShloMosaic.Init

@[expose] public section

noncomputable section

namespace Cert.Proof

open Idealize.ShloMosaic Idealize.SL Idealize.SL.Sem

theorem frame_kernel : Cert.quiescent_Kernel (hKernel := Cert.Kernel.Gen.facts) := fun m g _ =>
  (θ_run _ _ _).mono (fun _ h => ⟨fun c => Cert.Kernel.Head.args_kept _ h.1 c, h.2⟩)
    (Cert.Kernel.Head.run_main m g (Cert.Kernel.Head.trackNone m))

theorem frame_kernelIdeal : Cert.quiescent_KernelIdeal (hKernelIdeal := Cert.KernelIdeal.Gen.facts) := fun m g _ =>
  (θ_run _ _ _).mono (fun _ h => ⟨fun c => Cert.KernelIdeal.Head.args_kept _ h.1 c, h.2⟩)
    (Cert.KernelIdeal.Head.run_main m g (Cert.KernelIdeal.Head.trackNone m))

theorem preserves : Cert.preserves_Kernel_KernelIdeal :=
  IdealRules.named_const.statement Cert.KernelIdeal.κ "mask" .f32 0x7149F2CA#32 ⊤ rfl

theorem frame_referenceIdeal : Cert.quiescent_ReferenceIdeal (hReferenceIdeal := Cert.ReferenceIdeal.Gen.facts) := fun m g _ =>
  (θ_run _ _ _).mono (fun r h => ⟨fun c => (h c).2.2, sem_eq_zero_of_no_sems (by decide) r.2⟩)
    (Cert.ReferenceIdeal.Value.run (F := Ideal) m g)

attribute [local instance] Cert.Pre_attends_and_finite.preFacts

open Cert.Pre_attends_and_finite in
/-- The two results of the reference, of arguments that agree with the kernel's and meet the precondition. -/
theorem ref_results (m : (ℓ : Loc Cert.KernelIdeal.nD Cert.KernelIdeal.τ Cert.KernelIdeal.sig) → Buf (Elt Ideal) ℓ) (hpre : Cert.Pre_KernelIdeal_attends_and_finite m)
    (c : Dev Cert.KernelIdeal.nD) :
    Cert.ReferenceIdeal.Read.val_main_v56 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) = Cert.KernelIdeal.Head.resOut m c ∧ Cert.ReferenceIdeal.Read.val_main_v59 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) = Cert.KernelIdeal.Head.resAvg m c := by
  obtain ⟨p1, p2, p3, p4, p5, p6, p7⟩ := hpre c
  have hu := some_unmasked _ _ _ _ _ _ _ _ _ _ _ _ _ p1
  have h0 := real0 _ _ _ _ _ _ _ _ _ _ _ _ _ p2
  have h2 := real2 _ _ _ _ _ _ _ _ _ _ _ _ _ p3
  have h3 := real3 _ _ _ _ _ _ _ _ _ _ _ _ _ p4
  have h4 := real4 _ _ _ _ _ _ _ _ _ _ _ _ _ p5
  have h5 := real5 _ _ _ _ _ _ _ _ _ _ _ _ _ p6
  have h6 := real6 _ _ _ _ _ _ _ _ _ _ _ _ _ p7
  exact ⟨Cert.ReferenceIdeal.Head.out_fun _ _ _ _ _ _ _ _ _ _ _ _ _ h0 h2 h3 h4 h5 h6 hu, Cert.ReferenceIdeal.Head.avg_fun _ _ _ _ _ _ _ _ _ _ _ _ _ h0 h2 h3 h4 h5 h6 hu⟩

theorem algebraic : Cert.algebraic_KernelIdeal_ReferenceIdeal_pre_attends_and_finite (hKernelIdeal := Cert.KernelIdeal.Gen.facts)
    (hReferenceIdeal := Cert.ReferenceIdeal.Gen.facts) (hPre_attends_and_finite := Cert.Pre_attends_and_finite.preFacts) := fun m g m' g' hpre hagree => by
  refine ⟨fun c => Cert.KernelIdeal.Head.resOut m c, fun c => Cert.KernelIdeal.Head.resAvg m c, ?_, ?_⟩
  · refine (θ_run _ _ _).mono (fun r h c => ?_) (Cert.KernelIdeal.Head.run_main m g (Cert.KernelIdeal.Head.tracks m))
    have hr := Cert.KernelIdeal.Head.results h.1 c
    exact ⟨hr.1, hr.2, Cert.KernelIdeal.Head.args_kept _ h.1 c⟩
  · refine (θ_run _ _ _).mono (fun r h c => ?_) (Cert.ReferenceIdeal.Value.run (F := Ideal) m' g')
    obtain ⟨e1, e2, e3⟩ := h c
    have hr := ref_results m hpre c
    refine ⟨e1.trans ?_, e2.trans ?_, e3⟩
    · rw [Cert.ReferenceIdeal.Read.val_main_v56_eq]
      obtain ⟨a0, a1, a2, a3, a4, a5, a6, a7, a8, a9, a10, a11, a12⟩ := hagree c
      rw [a0, a1, a2, a3, a4, a5, a6, a7, a8, a9, a10, a11, a12]
      exact hr.1
    · rw [Cert.ReferenceIdeal.Read.val_main_v59_eq]
      obtain ⟨a0, a1, a2, a3, a4, a5, a6, a7, a8, a9, a10, a11, a12⟩ := hagree c
      rw [a0, a1, a2, a3, a4, a5, a6]
      exact hr.2

theorem claim : Cert.Claim := ⟨Cert.Kernel.Gen.facts, Cert.KernelIdeal.Gen.facts, Cert.ReferenceIdeal.Gen.facts, Cert.Pre_attends_and_finite.preFacts,
  frame_kernel, frame_kernelIdeal, fun m g _ => frame_kernelIdeal m g trivial, frame_referenceIdeal, fun m g _ => frame_referenceIdeal m g trivial, preserves, algebraic⟩

end Cert.Proof

end
